-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v1) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v9) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v9)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v9) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v11) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v1) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v1_0)) (v1 : (c : Dev Cert.Kernel2Ideal.nD) → Buf (Elt Ideal) ((c.tc : Thread Cert.Kernel2Ideal.nD Cert.Kernel2Ideal.τ).loc Cert.Kernel2Ideal.main_v1_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1_0) = v0 c
          ∧ r.2.mem ((c.tc : Thread Cert.Kernel2Ideal.nD Cert.Kernel2Ideal.τ).loc Cert.Kernel2Ideal.main_v1_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v7) = v0 c
          ∧ r.2.mem ((c.tc : Thread Cert.Reference2Ideal.nD Cert.Reference2Ideal.τ).loc Cert.Reference2Ideal.main_v10) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v1_0)) (v1 : (c : Dev Cert.Kernel9Ideal.nD) → Buf (Elt Ideal) ((c.tc : Thread Cert.Kernel9Ideal.nD Cert.Kernel9Ideal.τ).loc Cert.Kernel9Ideal.main_v1_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1_0) = v0 c
          ∧ r.2.mem ((c.tc : Thread Cert.Kernel9Ideal.nD Cert.Kernel9Ideal.τ).loc Cert.Kernel9Ideal.main_v1_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_v6) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v7)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v7) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v6) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def Claim : Prop :=
  ∃ (hKernel : Cert.Kernel.Facts) (hKernelIdeal : Cert.KernelIdeal.Facts) (hReferenceIdeal : Cert.ReferenceIdeal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel2 : Cert.Kernel2.Facts) (hKernel2Ideal : Cert.Kernel2Ideal.Facts) (hReference2Ideal : Cert.Reference2Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts),
    quiescent_Kernel (hKernel := hKernel)
    ∧ quiescent_KernelIdeal (hKernelIdeal := hKernelIdeal)
    ∧ quiescent_ReferenceIdeal (hReferenceIdeal := hReferenceIdeal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ preserves_Kernel_KernelIdeal
    ∧ algebraic_KernelIdeal_ReferenceIdeal (hKernelIdeal := hKernelIdeal) (hReferenceIdeal := hReferenceIdeal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel2_Kernel2Ideal
    ∧ algebraic_Kernel2Ideal_Reference2Ideal (hKernel2Ideal := hKernel2Ideal) (hReference2Ideal := hReference2Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
-- ==== Kernel.lean ====
abbrev S4x2048x5376 : Shape := ⟨3, ![4, 2048, 5376]⟩
abbrev S4x256x5376 : Shape := ⟨3, ![4, 256, 5376]⟩
abbrev S16x336x336 : Shape := ⟨3, ![16, 336, 336]⟩
abbrev S5376 : Shape := ⟨1, ![5376]⟩
abbrev S4x2048x16x336 : Shape := ⟨4, ![4, 2048, 16, 336]⟩
abbrev S_ : Shape := ⟨0, ![]⟩
abbrev S4x2048x16x384 : Shape := ⟨4, ![4, 2048, 16, 384]⟩
abbrev S4x2048x6144 : Shape := ⟨3, ![4, 2048, 6144]⟩
abbrev S128x64x6144 : Shape := ⟨3, ![128, 64, 6144]⟩
abbrev S4x256x16x336 : Shape := ⟨4, ![4, 256, 16, 336]⟩
abbrev S4x256x16x384 : Shape := ⟨4, ![4, 256, 16, 384]⟩
abbrev S4x256x6144 : Shape := ⟨3, ![4, 256, 6144]⟩
abbrev S4x8x32x6144 : Shape := ⟨4, ![4, 8, 32, 6144]⟩
abbrev S4x32x8x6144 : Shape := ⟨4, ![4, 32, 8, 6144]⟩
abbrev S128x8x6144 : Shape := ⟨3, ![128, 8, 6144]⟩
abbrev S16x384x384 : Shape := ⟨3, ![16, 384, 384]⟩
abbrev S16x336 : Shape := ⟨2, ![16, 336]⟩
abbrev S16x384 : Shape := ⟨2, ![16, 384]⟩
abbrev S6144 : Shape := ⟨1, ![6144]⟩
abbrev S1x6144 : Shape := ⟨2, ![1, 6144]⟩
abbrev S32x8x1536 : Shape := ⟨3, ![32, 8, 1536]⟩
abbrev S4x384x384 : Shape := ⟨3, ![4, 384, 384]⟩
abbrev S1x1536 : Shape := ⟨2, ![1, 1536]⟩
abbrev S256x1536 : Shape := ⟨2, ![256, 1536]⟩
abbrev S256x384 : Shape := ⟨2, ![256, 384]⟩
abbrev S1x384x384 : Shape := ⟨3, ![1, 384, 384]⟩
abbrev S384x384 : Shape := ⟨2, ![384, 384]⟩
abbrev S1x384 : Shape := ⟨2, ![1, 384]⟩
abbrev S32x8x384 : Shape := ⟨3, ![32, 8, 384]⟩
abbrev S1x8x1536 : Shape := ⟨3, ![1, 8, 1536]⟩
abbrev S8x1536 : Shape := ⟨2, ![8, 1536]⟩

abbrev nBuf : Space → Nat
  | .hbm => 48
  | .vmem => 19
  | .smem => 0
  | _ => 0

abbrev bufTy : (tb : Table) → Fin (tcTables nBuf tb) → BufTy
  | .hbm, ⟨0, _⟩ => ⟨S4x2048x5376, .f32⟩
  | .hbm, ⟨1, _⟩ => ⟨S4x256x5376, .f32⟩
  | .hbm, ⟨2, _⟩ => ⟨S16x336x336, .f32⟩
  | .hbm, ⟨3, _⟩ => ⟨S5376, .f32⟩
  | .hbm, ⟨4, _⟩ => ⟨S16x336x336, .f32⟩
  | .hbm, ⟨5, _⟩ => ⟨S5376, .f32⟩
  | .hbm, ⟨6, _⟩ => ⟨S5376, .f32⟩
  | .hbm, ⟨7, _⟩ => ⟨S4x2048x16x336, .f32⟩
  | .hbm, ⟨8, _⟩ => ⟨S_, .i32⟩
  | .hbm, ⟨9, _⟩ => ⟨S_, .f32⟩
  | .hbm, ⟨10, _⟩ => ⟨S4x2048x16x384, .f32⟩
  | .hbm, ⟨11, _⟩ => ⟨S4x2048x6144, .f32⟩
  | .hbm, ⟨12, _⟩ => ⟨S128x64x6144, .f32⟩
  | .hbm, ⟨13, _⟩ => ⟨S4x256x16x336, .f32⟩
  | .hbm, ⟨14, _⟩ => ⟨S_, .i32⟩
  | .hbm, ⟨15, _⟩ => ⟨S_, .f32⟩
  | .hbm, ⟨16, _⟩ => ⟨S4x256x16x384, .f32⟩
  | .hbm, ⟨17, _⟩ => ⟨S4x256x6144, .f32⟩
  | .hbm, ⟨18, _⟩ => ⟨S4x8x32x6144, .f32⟩
  | .hbm, ⟨19, _⟩ => ⟨S4x32x8x6144, .f32⟩
  | .hbm, ⟨20, _⟩ => ⟨S128x8x6144, .f32⟩
  | .hbm, ⟨21, _⟩ => ⟨S_, .i32⟩
  | .hbm, ⟨22, _⟩ => ⟨S_, .f32⟩
  | .hbm, ⟨23, _⟩ => ⟨S16x384x384, .f32⟩
  | .hbm, ⟨24, _⟩ => ⟨S16x384x384, .bf16⟩
  | .hbm, ⟨25, _⟩ => ⟨S_, .i32⟩
  | .hbm, ⟨26, _⟩ => ⟨S_, .f32⟩
  | .hbm, ⟨27, _⟩ => ⟨S16x384x384, .f32⟩
  | .hbm, ⟨28, _⟩ => ⟨S16x384x384, .bf16⟩
  | .hbm, ⟨29, _⟩ => ⟨S16x336, .f32⟩
  | .hbm, ⟨30, _⟩ => ⟨S_, .i32⟩
  | .hbm, ⟨31, _⟩ => ⟨S_, .f32⟩
  | .hbm, ⟨32, _⟩ => ⟨S16x384, .f32⟩
  | .hbm, ⟨33, _⟩ => ⟨S6144, .f32⟩
  | .hbm, ⟨34, _⟩ => ⟨S1x6144, .f32⟩
  | .hbm, ⟨35, _⟩ => ⟨S16x336, .f32⟩
  | .hbm, ⟨36, _⟩ => ⟨S_, .i32⟩
  | .hbm, ⟨37, _⟩ => ⟨S_, .f32⟩
  | .hbm, ⟨38, _⟩ => ⟨S16x384, .f32⟩
  | .hbm, ⟨39, _⟩ => ⟨S6144, .f32⟩
  | .hbm, ⟨40, _⟩ => ⟨S1x6144, .f32⟩
  | .hbm, ⟨41, _⟩ => ⟨S16x336, .f32⟩
  | .hbm, ⟨42, _⟩ => ⟨S_, .i32⟩
  | .hbm, ⟨43, _⟩ => ⟨S_, .f32⟩
  | .hbm, ⟨44, _⟩ => ⟨S16x384, .f32⟩
  | .hbm, ⟨45, _⟩ => ⟨S6144, .f32⟩
  | .hbm, ⟨46, _⟩ => ⟨S1x6144, .f32⟩
  | .hbm, ⟨47, _⟩ => ⟨S128x64x6144, .f32⟩
  | .local _ .vmem, ⟨0, _⟩ => ⟨S32x8x1536, .f32⟩
  | .local _ .vmem, ⟨1, _⟩ => ⟨S32x8x1536, .f32⟩
  | .local _ .vmem, ⟨2, _⟩ => ⟨S32x8x1536, .f32⟩
  | .local _ .vmem, ⟨3, _⟩ => ⟨S32x8x1536, .f32⟩
  | .local _ .vmem, ⟨4, _⟩ => ⟨S4x384x384, .bf16⟩
  | .local _ .vmem, ⟨5, _⟩ => ⟨S4x384x384, .bf16⟩
  | .local _ .vmem, ⟨6, _⟩ => ⟨S4x384x384, .bf16⟩
  | .local _ .vmem, ⟨7, _⟩ => ⟨S4x384x384, .bf16⟩
  | .local _ .vmem, ⟨8, _⟩ => ⟨S1x1536, .f32⟩
  | .local _ .vmem, ⟨9, _⟩ => ⟨S1x1536, .f32⟩
  | .local _ .vmem, ⟨10, _⟩ => ⟨S1x1536, .f32⟩
  | .local _ .vmem, ⟨11, _⟩ => ⟨S1x1536, .f32⟩
  | .local _ .vmem, ⟨12, _⟩ => ⟨S1x1536, .f32⟩
  | .local _ .vmem, ⟨13, _⟩ => ⟨S1x1536, .f32⟩
  | .local _ .vmem, ⟨14, _⟩ => ⟨S32x8x1536, .f32⟩
  | .local _ .vmem, ⟨15, _⟩ => ⟨S32x8x1536, .f32⟩
  | .local _ .vmem, ⟨16, _⟩ => ⟨S1x1536, .f32⟩
  | .local _ .vmem, ⟨17, _⟩ => ⟨S32x8x1536, .f32⟩
  | .local _ .vmem, ⟨18, _⟩ => ⟨S32x8x1536, .f32⟩
  | _, _ => ⟨S4x2048x5376, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c_0 : Ref sig .tc := ⟨.hbm, 14, rfl⟩
abbrev main_call1_v0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c_1 : Ref sig .tc := ⟨.hbm, 21, rfl⟩
abbrev main_call2_v0 : Ref sig .tc := ⟨.hbm, 22, rfl⟩
abbrev main_v10 : Ref sig .tc := ⟨.hbm, 23, rfl⟩
abbrev main_v11 : Ref sig .tc := ⟨.hbm, 24, rfl⟩
abbrev main_c_2 : Ref sig .tc := ⟨.hbm, 25, rfl⟩
abbrev main_call3_v0 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_c_3 : Ref sig .tc := ⟨.hbm, 30, rfl⟩
abbrev main_call4_v0 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_c_4 : Ref sig .tc := ⟨.hbm, 36, rfl⟩
abbrev main_call5_v0 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_c_5 : Ref sig .tc := ⟨.hbm, 42, rfl⟩
abbrev main_call6_v0 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![4, 4, 9], ![false, false, false]⟩

def k0_cond2 (i : grid0.Coords) : BitVec 1 :=
  let arg2 : BitVec 32 := BitVec.ofNat 32 (i 2).val
  let c1_i32_476 : BitVec 32 := 1#32
  let v736 : BitVec 1 := Scalar.cmpi .sge arg2 c1_i32_476
  let v737 : BitVec 32 := Scalar.extui v736
  let c0_i32_477 : BitVec 32 := 0#32
  let v738 : BitVec 1 := Scalar.cmpi .ne v737 c0_i32_477
  v738

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let c7_i32 : BitVec 32 := 7#32
  let v1 : BitVec 32 := Scalar.maxsi c0_i32 v0
  let v2 : BitVec 32 := Scalar.minsi c7_i32 v1
  let c0_i32_0 : BitVec 32 := 0#32
  ![arg1.toNat, v2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let c7_i32 : BitVec 32 := 7#32
  let v1 : BitVec 32 := Scalar.maxsi c0_i32 v0
  let v2 : BitVec 32 := Scalar.minsi c7_i32 v1
  let c0_i32_0 : BitVec 32 := 0#32
  ![arg1.toNat, v2.toNat, arg0.toNat]

abbrev stage0_0 : Fin 2 → Memref sig .tc .vmem S32x8x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S32x8x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4x384x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S4x384x384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S1x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S32x8x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== ReferenceIdeal.lean ====
abbrev S4x2048x5376 : Shape := ⟨3, ![4, 2048, 5376]⟩
abbrev S4x256x5376 : Shape := ⟨3, ![4, 256, 5376]⟩
abbrev S16x336x336 : Shape := ⟨3, ![16, 336, 336]⟩
abbrev S5376 : Shape := ⟨1, ![5376]⟩
abbrev S4x32x64x5376 : Shape := ⟨4, ![4, 32, 64, 5376]⟩
abbrev S4x64x32x5376 : Shape := ⟨4, ![4, 64, 32, 5376]⟩
abbrev S4x2304x5376 : Shape := ⟨3, ![4, 2304, 5376]⟩
abbrev S4x2304x16x336 : Shape := ⟨4, ![4, 2304, 16, 336]⟩
abbrev S16x336x4x2304 : Shape := ⟨4, ![16, 336, 4, 2304]⟩
abbrev S1x1x5376 : Shape := ⟨3, ![1, 1, 5376]⟩
abbrev S_ : Shape := ⟨0, ![]⟩
abbrev S4x5376 : Shape := ⟨2, ![4, 5376]⟩
abbrev S2304x4x5376 : Shape := ⟨3, ![2304, 4, 5376]⟩
abbrev S1x4x5376 : Shape := ⟨3, ![1, 4, 5376]⟩
abbrev S128x64x16x336 : Shape := ⟨4, ![128, 64, 16, 336]⟩
abbrev S128x64x16x384 : Shape := ⟨4, ![128, 64, 16, 384]⟩
abbrev S128x64x6144 : Shape := ⟨3, ![128, 64, 6144]⟩

abbrev nBuf : Space → Nat
  | .hbm => 110
  | .vmem => 0
  | .smem => 0
  | _ => 0

abbrev bufTy : (tb : Table) → Fin (tcTables nBuf tb) → BufTy
  | .hbm, ⟨0, _⟩ => ⟨S4x2048x5376, .f32⟩
  | .hbm, ⟨1, _⟩ => ⟨S4x256x5376, .f32⟩
  | .hbm, ⟨2, _⟩ => ⟨S16x336x336, .f32⟩
  | .hbm, ⟨3, _⟩ => ⟨S5376, .f32⟩
  | .hbm, ⟨4, _⟩ => ⟨S16x336x336, .f32⟩
  | .hbm, ⟨5, _⟩ => ⟨S5376, .f32⟩
  | .hbm, ⟨6, _⟩ => ⟨S5376, .f32⟩
  | .hbm, ⟨7, _⟩ => ⟨S4x32x64x5376, .f32⟩
  | .hbm, ⟨8, _⟩ => ⟨S4x64x32x5376, .f32⟩
  | .hbm, ⟨9, _⟩ => ⟨S4x2048x5376, .f32⟩
  | .hbm, ⟨10, _⟩ => ⟨S4x2304x5376, .f32⟩
  | .hbm, ⟨11, _⟩ => ⟨S4x2304x16x336, .f32⟩
  | .hbm, ⟨12, _⟩ => ⟨S16x336x4x2304, .f32⟩
  | .hbm, ⟨13, _⟩ => ⟨S4x2304x16x336, .f32⟩
  | .hbm, ⟨14, _⟩ => ⟨S4x2304x5376, .f32⟩
  | .hbm, ⟨15, _⟩ => ⟨S1x1x5376, .f32⟩
  | .hbm, ⟨16, _⟩ => ⟨S4x2304x5376, .f32⟩
  | .hbm, ⟨17, _⟩ => ⟨S4x2304x5376, .f32⟩
  | .hbm, ⟨18, _⟩ => ⟨S4x2304x5376, .f32⟩
  | .hbm, ⟨19, _⟩ => ⟨S4x2304x5376, .f32⟩
  | .hbm, ⟨20, _⟩ => ⟨S_, .f32⟩
  | .hbm, ⟨21, _⟩ => ⟨S4x2304x5376, .f32⟩
  | .hbm, ⟨22, _⟩ => ⟨S4x2304x5376, .f32⟩
  | .hbm, ⟨23, _⟩ => ⟨S_, .f32⟩
  | .hbm, ⟨24, _⟩ => ⟨S4x2304x5376, .f32⟩
  | .hbm, ⟨25, _⟩ => ⟨S4x2304x5376, .f32⟩
  | .hbm, ⟨26, _⟩ => ⟨S16x336x4x2304, .f32⟩
  | .hbm, ⟨27, _⟩ => ⟨S4x2304x16x336, .f32⟩
  | .hbm, ⟨28, _⟩ => ⟨S4x2304x5376, .f32⟩
  | .hbm, ⟨29, _⟩ => ⟨S1x1x5376, .f32⟩
  | .hbm, ⟨30, _⟩ => ⟨S4x2304x5376, .f32⟩
  | .hbm, ⟨31, _⟩ => ⟨S4x2304x5376, .f32⟩
  | .hbm, ⟨32, _⟩ => ⟨S4x2304x5376, .f32⟩
  | .hbm, ⟨33, _⟩ => ⟨S4x2304x5376, .f32⟩
  | .hbm, ⟨34, _⟩ => ⟨S_, .f32⟩
  | .hbm, ⟨35, _⟩ => ⟨S4x2304x5376, .f32⟩
  | .hbm, ⟨36, _⟩ => ⟨S4x2304x5376, .f32⟩
  | .hbm, ⟨37, _⟩ => ⟨S_, .f32⟩
  | .hbm, ⟨38, _⟩ => ⟨S4x2304x5376, .f32⟩
  | .hbm, ⟨39, _⟩ => ⟨S4x2304x5376, .f32⟩
  | .hbm, ⟨40, _⟩ => ⟨S_, .f32⟩
  | .hbm, ⟨41, _⟩ => ⟨S4x2304x5376, .f32⟩
  | .hbm, ⟨42, _⟩ => ⟨S4x2304x5376, .f32⟩
  | .hbm, ⟨43, _⟩ => ⟨S5376, .f32⟩
  | .hbm, ⟨44, _⟩ => ⟨S_, .f32⟩
  | .hbm, ⟨45, _⟩ => ⟨S5376, .f32⟩
  | .hbm, ⟨46, _⟩ => ⟨S5376, .f32⟩
  | .hbm, ⟨47, _⟩ => ⟨S5376, .f32⟩
  | .hbm, ⟨48, _⟩ => ⟨S5376, .f32⟩
  | .hbm, ⟨49, _⟩ => ⟨S5376, .i1⟩
  | .hbm, ⟨50, _⟩ => ⟨S5376, .f32⟩
  | .hbm, ⟨51, _⟩ => ⟨S5376, .f32⟩
  | .hbm, ⟨52, _⟩ => ⟨S5376, .f32⟩
  | .hbm, ⟨53, _⟩ => ⟨S5376, .f32⟩
  | .hbm, ⟨54, _⟩ => ⟨S5376, .f32⟩
  | .hbm, ⟨55, _⟩ => ⟨S5376, .f32⟩
  | .hbm, ⟨56, _⟩ => ⟨S5376, .f32⟩
  | .hbm, ⟨57, _⟩ => ⟨S5376, .f32⟩
  | .hbm, ⟨58, _⟩ => ⟨S1x1x5376, .f32⟩
  | .hbm, ⟨59, _⟩ => ⟨S4x2304x5376, .f32⟩
  | .hbm, ⟨60, _⟩ => ⟨S4x2304x5376, .f32⟩
  | .hbm, ⟨61, _⟩ => ⟨S4x2304x5376, .f32⟩
  | .hbm, ⟨62, _⟩ => ⟨S_, .f32⟩
  | .hbm, ⟨63, _⟩ => ⟨S4x2304x5376, .f32⟩
  | .hbm, ⟨64, _⟩ => ⟨S4x2304x5376, .f32⟩
  | .hbm, ⟨65, _⟩ => ⟨S4x2304x5376, .f32⟩
  | .hbm, ⟨66, _⟩ => ⟨S4x2304x5376, .f32⟩
  | .hbm, ⟨67, _⟩ => ⟨S4x2304x5376, .f32⟩
  | .hbm, ⟨68, _⟩ => ⟨S4x2304x5376, .f32⟩
  | .hbm, ⟨69, _⟩ => ⟨S4x2304x5376, .f32⟩
  | .hbm, ⟨70, _⟩ => ⟨S_, .f32⟩
  | .hbm, ⟨71, _⟩ => ⟨S4x5376, .f32⟩
  | .hbm, ⟨72, _⟩ => ⟨S2304x4x5376, .f32⟩
  | .hbm, ⟨73, _⟩ => ⟨S2304x4x5376, .f32⟩
  | .hbm, ⟨74, _⟩ => ⟨S_, .f32⟩
  | .hbm, ⟨75, _⟩ => ⟨S2304x4x5376, .f32⟩
  | .hbm, ⟨76, _⟩ => ⟨S_, .i32⟩
  | .hbm, ⟨77, _⟩ => ⟨S2304x4x5376, .f32⟩
  | .hbm, ⟨78, _⟩ => ⟨S2304x4x5376, .f32⟩
  | .hbm, ⟨79, _⟩ => ⟨S_, .i32⟩
  | .hbm, ⟨80, _⟩ => ⟨S4x5376, .f32⟩
  | .hbm, ⟨81, _⟩ => ⟨S2304x4x5376, .f32⟩
  | .hbm, ⟨82, _⟩ => ⟨S_, .i32⟩
  | .hbm, ⟨83, _⟩ => ⟨S_, .i1⟩
  | .hbm, ⟨84, _⟩ => ⟨S_, .i32⟩
  | .hbm, ⟨85, _⟩ => ⟨S_, .i32⟩
  | .hbm, ⟨86, _⟩ => ⟨S1x4x5376, .f32⟩
  | .hbm, ⟨87, _⟩ => ⟨S4x5376, .f32⟩
  | .hbm, ⟨88, _⟩ => ⟨S_, .i32⟩
  | .hbm, ⟨89, _⟩ => ⟨S_, .i32⟩
  | .hbm, ⟨90, _⟩ => ⟨S1x4x5376, .f32⟩
  | .hbm, ⟨91, _⟩ => ⟨S4x5376, .f32⟩
  | .hbm, ⟨92, _⟩ => ⟨S4x5376, .f32⟩
  | .hbm, ⟨93, _⟩ => ⟨S4x5376, .f32⟩
  | .hbm, ⟨94, _⟩ => ⟨S1x4x5376, .f32⟩
  | .hbm, ⟨95, _⟩ => ⟨S_, .i32⟩
  | .hbm, ⟨96, _⟩ => ⟨S_, .i32⟩
  | .hbm, ⟨97, _⟩ => ⟨S2304x4x5376, .f32⟩
  | .hbm, ⟨98, _⟩ => ⟨S_, .i32⟩
  | .hbm, ⟨99, _⟩ => ⟨S_, .i32⟩
  | .hbm, ⟨100, _⟩ => ⟨S4x2304x5376, .f32⟩
  | .hbm, ⟨101, _⟩ => ⟨S4x2048x5376, .f32⟩
  | .hbm, ⟨102, _⟩ => ⟨S4x64x32x5376, .f32⟩
  | .hbm, ⟨103, _⟩ => ⟨S4x32x64x5376, .f32⟩
  | .hbm, ⟨104, _⟩ => ⟨S4x2048x5376, .f32⟩
  | .hbm, ⟨105, _⟩ => ⟨S128x64x16x336, .f32⟩
  | .hbm, ⟨106, _⟩ => ⟨S_, .i32⟩
  | .hbm, ⟨107, _⟩ => ⟨S_, .f32⟩
  | .hbm, ⟨108, _⟩ => ⟨S128x64x16x384, .f32⟩
  | .hbm, ⟨109, _⟩ => ⟨S128x64x6144, .f32⟩
  | _, _ => ⟨S4x2048x5376, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_1 : Ref sig .tc := ⟨.hbm, 34, rfl⟩
abbrev main_v25 : Ref sig .tc := ⟨.hbm, 35, rfl⟩
abbrev main_v26 : Ref sig .tc := ⟨.hbm, 36, rfl⟩
abbrev main_cst_2 : Ref sig .tc := ⟨.hbm, 37, rfl⟩
abbrev main_v27 : Ref sig .tc := ⟨.hbm, 38, rfl⟩
abbrev main_v28 : Ref sig .tc := ⟨.hbm, 39, rfl⟩
abbrev main_cst_3 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_call0_cst : Ref sig .tc := ⟨.hbm, 44, rfl⟩
abbrev main_call0_v0 : Ref sig .tc := ⟨.hbm, 45, rfl⟩
abbrev main_call0_v1 : Ref sig .tc := ⟨.hbm, 46, rfl⟩
abbrev main_call0_v2 : Ref sig .tc := ⟨.hbm, 47, rfl⟩
abbrev main_call0_v3 : Ref sig .tc := ⟨.hbm, 48, rfl⟩
abbrev main_call0_v4 : Ref sig .tc := ⟨.hbm, 49, rfl⟩
abbrev main_call0_v5 : Ref sig .tc := ⟨.hbm, 50, rfl⟩
abbrev main_call0_v6 : Ref sig .tc := ⟨.hbm, 51, rfl⟩
abbrev main_call0_v7 : Ref sig .tc := ⟨.hbm, 52, rfl⟩
abbrev main_call0_v8 : Ref sig .tc := ⟨.hbm, 53, rfl⟩
abbrev main_call0_v9 : Ref sig .tc := ⟨.hbm, 54, rfl⟩
abbrev main_call0_v10 : Ref sig .tc := ⟨.hbm, 55, rfl⟩
abbrev main_call0_v11 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_cst_4 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_cst_5 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_cst_6 : Ref sig .tc := ⟨.hbm, 74, rfl⟩
abbrev main_v47 : Ref sig .tc := ⟨.hbm, 75, rfl⟩
abbrev main_c : Ref sig .tc := ⟨.hbm, 76, rfl⟩
abbrev main_v48_0 : Ref sig .tc := ⟨.hbm, 77, rfl⟩
abbrev main_v48_1 : Ref sig .tc := ⟨.hbm, 78, rfl⟩
abbrev main_v48_2 : Ref sig .tc := ⟨.hbm, 79, rfl⟩
abbrev main_v48_3 : Ref sig .tc := ⟨.hbm, 80, rfl⟩
abbrev main_v48_4 : Ref sig .tc := ⟨.hbm, 81, rfl⟩
abbrev main_while0c_c_12 : Ref sig .tc := ⟨.hbm, 82, rfl⟩
abbrev main_while0c_v57 : Ref sig .tc := ⟨.hbm, 83, rfl⟩
abbrev main_while0b_call1_c : Ref sig .tc := ⟨.hbm, 84, rfl⟩
abbrev main_while0b_call1_c_0 : Ref sig .tc := ⟨.hbm, 85, rfl⟩
abbrev main_while0b_call1_v0 : Ref sig .tc := ⟨.hbm, 86, rfl⟩
abbrev main_while0b_v57 : Ref sig .tc := ⟨.hbm, 87, rfl⟩
abbrev main_while0b_call2_c : Ref sig .tc := ⟨.hbm, 88, rfl⟩
abbrev main_while0b_call2_c_0 : Ref sig .tc := ⟨.hbm, 89, rfl⟩
abbrev main_while0b_call2_v0 : Ref sig .tc := ⟨.hbm, 90, rfl⟩
abbrev main_while0b_v58 : Ref sig .tc := ⟨.hbm, 91, rfl⟩
abbrev main_while0b_v59 : Ref sig .tc := ⟨.hbm, 92, rfl⟩
abbrev main_while0b_v60 : Ref sig .tc := ⟨.hbm, 93, rfl⟩
abbrev main_while0b_call3_v0 : Ref sig .tc := ⟨.hbm, 94, rfl⟩
abbrev main_while0b_call3_c : Ref sig .tc := ⟨.hbm, 95, rfl⟩
abbrev main_while0b_call3_c_0 : Ref sig .tc := ⟨.hbm, 96, rfl⟩
abbrev main_while0b_v61 : Ref sig .tc := ⟨.hbm, 97, rfl⟩
abbrev main_while0b_c_12 : Ref sig .tc := ⟨.hbm, 98, rfl⟩
abbrev main_while0b_v62 : Ref sig .tc := ⟨.hbm, 99, rfl⟩
abbrev main_v49 : Ref sig .tc := ⟨.hbm, 100, rfl⟩
abbrev main_v50 : Ref sig .tc := ⟨.hbm, 101, rfl⟩
abbrev main_v51 : Ref sig .tc := ⟨.hbm, 102, rfl⟩
abbrev main_v52 : Ref sig .tc := ⟨.hbm, 103, rfl⟩
abbrev main_v53 : Ref sig .tc := ⟨.hbm, 104, rfl⟩
abbrev main_v54 : Ref sig .tc := ⟨.hbm, 105, rfl⟩
abbrev main_c_7 : Ref sig .tc := ⟨.hbm, 106, rfl⟩
abbrev main_call4_v0 : Ref sig .tc := ⟨.hbm, 107, rfl⟩
abbrev main_v55 : Ref sig .tc := ⟨.hbm, 108, rfl⟩
abbrev main_v56 : Ref sig .tc := ⟨.hbm, 109, rfl⟩

abbrev nD : Nat := 1
abbrev τ : Topo := Topo.v7x

variable {F : FTy → Type} [FloatOps F]

abbrev main_while0_count : Scf.Loop 32 := ⟨0#32, 2304#32, 1#32⟩
-- ==== Kernel3.lean ====
abbrev S9216x11008 : Shape := ⟨2, ![9216, 11008]⟩
abbrev S11008x4096 : Shape := ⟨2, ![11008, 4096]⟩
abbrev S9216x4096 : Shape := ⟨2, ![9216, 4096]⟩
abbrev S1024x11008 : Shape := ⟨2, ![1024, 11008]⟩
abbrev S11008x512 : Shape := ⟨2, ![11008, 512]⟩
abbrev S1024x512 : Shape := ⟨2, ![1024, 512]⟩

abbrev nBuf : Space → Nat
  | .hbm => 5
  | .vmem => 5
  | .smem => 0
  | _ => 0

abbrev bufTy : (tb : Table) → Fin (tcTables nBuf tb) → BufTy
  | .hbm, ⟨0, _⟩ => ⟨S9216x11008, .f32⟩
  | .hbm, ⟨1, _⟩ => ⟨S11008x4096, .f32⟩
  | .hbm, ⟨2, _⟩ => ⟨S9216x11008, .bf16⟩
  | .hbm, ⟨3, _⟩ => ⟨S11008x4096, .bf16⟩
  | .hbm, ⟨4, _⟩ => ⟨S9216x4096, .bf16⟩
  | .local _ .vmem, ⟨0, _⟩ => ⟨S1024x11008, .bf16⟩
  | .local _ .vmem, ⟨1, _⟩ => ⟨S11008x512, .bf16⟩
  | .local _ .vmem, ⟨2, _⟩ => ⟨S11008x512, .bf16⟩
  | .local _ .vmem, ⟨3, _⟩ => ⟨S1024x512, .bf16⟩
  | .local _ .vmem, ⟨4, _⟩ => ⟨S1024x512, .bf16⟩
  | _, _ => ⟨S9216x11008, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![9, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1024x11008 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S11008x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S9216x11008 : Shape := ⟨2, ![9216, 11008]⟩
abbrev S11008x4096 : Shape := ⟨2, ![11008, 4096]⟩
abbrev S9216x4096 : Shape := ⟨2, ![9216, 4096]⟩

abbrev nBuf : Space → Nat
  | .hbm => 4
  | .vmem => 0
  | .smem => 0
  | _ => 0

abbrev bufTy : (tb : Table) → Fin (tcTables nBuf tb) → BufTy
  | .hbm, ⟨0, _⟩ => ⟨S9216x11008, .f32⟩
  | .hbm, ⟨1, _⟩ => ⟨S11008x4096, .f32⟩
  | .hbm, ⟨2, _⟩ => ⟨S9216x4096, .f32⟩
  | .hbm, ⟨3, _⟩ => ⟨S9216x4096, .bf16⟩
  | _, _ => ⟨S9216x11008, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel4.lean ====
abbrev S9216x4096 : Shape := ⟨2, ![9216, 4096]⟩
abbrev S1x4096x37632 : Shape := ⟨3, ![1, 4096, 37632]⟩
abbrev S9216x10240 : Shape := ⟨2, ![9216, 10240]⟩
abbrev S2304x4096 : Shape := ⟨2, ![2304, 4096]⟩
abbrev S1x4096x512 : Shape := ⟨3, ![1, 4096, 512]⟩
abbrev S2304x512 : Shape := ⟨2, ![2304, 512]⟩
abbrev S4096x512 : Shape := ⟨2, ![4096, 512]⟩

abbrev nBuf : Space → Nat
  | .hbm => 4
  | .vmem => 5
  | .smem => 0
  | _ => 0

abbrev bufTy : (tb : Table) → Fin (tcTables nBuf tb) → BufTy
  | .hbm, ⟨0, _⟩ => ⟨S9216x4096, .f32⟩
  | .hbm, ⟨1, _⟩ => ⟨S1x4096x37632, .f32⟩
  | .hbm, ⟨2, _⟩ => ⟨S9216x4096, .bf16⟩
  | .hbm, ⟨3, _⟩ => ⟨S9216x10240, .bf16⟩
  | .local _ .vmem, ⟨0, _⟩ => ⟨S2304x4096, .bf16⟩
  | .local _ .vmem, ⟨1, _⟩ => ⟨S1x4096x512, .f32⟩
  | .local _ .vmem, ⟨2, _⟩ => ⟨S1x4096x512, .f32⟩
  | .local _ .vmem, ⟨3, _⟩ => ⟨S2304x512, .bf16⟩
  | .local _ .vmem, ⟨4, _⟩ => ⟨S2304x512, .bf16⟩
  | _, _ => ⟨S9216x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 20], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  let c0_i32_1 : BitVec 32 := 0#32
  ![c0_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2304x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2304x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S9216x4096 : Shape := ⟨2, ![9216, 4096]⟩
abbrev S1x4096x37632 : Shape := ⟨3, ![1, 4096, 37632]⟩
abbrev S4096x37632 : Shape := ⟨2, ![4096, 37632]⟩
abbrev S9216x37632 : Shape := ⟨2, ![9216, 37632]⟩
abbrev S9216x10240 : Shape := ⟨2, ![9216, 10240]⟩

abbrev nBuf : Space → Nat
  | .hbm => 6
  | .vmem => 0
  | .smem => 0
  | _ => 0

abbrev bufTy : (tb : Table) → Fin (tcTables nBuf tb) → BufTy
  | .hbm, ⟨0, _⟩ => ⟨S9216x4096, .f32⟩
  | .hbm, ⟨1, _⟩ => ⟨S1x4096x37632, .f32⟩
  | .hbm, ⟨2, _⟩ => ⟨S4096x37632, .f32⟩
  | .hbm, ⟨3, _⟩ => ⟨S9216x37632, .f32⟩
  | .hbm, ⟨4, _⟩ => ⟨S9216x10240, .f32⟩
  | .hbm, ⟨5, _⟩ => ⟨S9216x10240, .bf16⟩
  | _, _ => ⟨S9216x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel5.lean ====
abbrev S9216x4096 : Shape := ⟨2, ![9216, 4096]⟩
abbrev S1x4096x37632 : Shape := ⟨3, ![1, 4096, 37632]⟩
abbrev S8192x8192 : Shape := ⟨2, ![8192, 8192]⟩
abbrev S2048x4096 : Shape := ⟨2, ![2048, 4096]⟩
abbrev S1x4096x512 : Shape := ⟨3, ![1, 4096, 512]⟩
abbrev S2048x512 : Shape := ⟨2, ![2048, 512]⟩
abbrev S4096x512 : Shape := ⟨2, ![4096, 512]⟩

abbrev nBuf : Space → Nat
  | .hbm => 4
  | .vmem => 5
  | .smem => 0
  | _ => 0

abbrev bufTy : (tb : Table) → Fin (tcTables nBuf tb) → BufTy
  | .hbm, ⟨0, _⟩ => ⟨S9216x4096, .f32⟩
  | .hbm, ⟨1, _⟩ => ⟨S1x4096x37632, .f32⟩
  | .hbm, ⟨2, _⟩ => ⟨S9216x4096, .bf16⟩
  | .hbm, ⟨3, _⟩ => ⟨S8192x8192, .bf16⟩
  | .local _ .vmem, ⟨0, _⟩ => ⟨S2048x4096, .bf16⟩
  | .local _ .vmem, ⟨1, _⟩ => ⟨S1x4096x512, .f32⟩
  | .local _ .vmem, ⟨2, _⟩ => ⟨S1x4096x512, .f32⟩
  | .local _ .vmem, ⟨3, _⟩ => ⟨S2048x512, .bf16⟩
  | .local _ .vmem, ⟨4, _⟩ => ⟨S2048x512, .bf16⟩
  | _, _ => ⟨S9216x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S9216x4096 : Shape := ⟨2, ![9216, 4096]⟩
abbrev S1x4096x37632 : Shape := ⟨3, ![1, 4096, 37632]⟩
abbrev S8192x4096 : Shape := ⟨2, ![8192, 4096]⟩
abbrev S4096x37632 : Shape := ⟨2, ![4096, 37632]⟩
abbrev S8192x37632 : Shape := ⟨2, ![8192, 37632]⟩
abbrev S8192x8192 : Shape := ⟨2, ![8192, 8192]⟩

abbrev nBuf : Space → Nat
  | .hbm => 7
  | .vmem => 0
  | .smem => 0
  | _ => 0

abbrev bufTy : (tb : Table) → Fin (tcTables nBuf tb) → BufTy
  | .hbm, ⟨0, _⟩ => ⟨S9216x4096, .f32⟩
  | .hbm, ⟨1, _⟩ => ⟨S1x4096x37632, .f32⟩
  | .hbm, ⟨2, _⟩ => ⟨S8192x4096, .f32⟩
  | .hbm, ⟨3, _⟩ => ⟨S4096x37632, .f32⟩
  | .hbm, ⟨4, _⟩ => ⟨S8192x37632, .f32⟩
  | .hbm, ⟨5, _⟩ => ⟨S8192x8192, .f32⟩
  | .hbm, ⟨6, _⟩ => ⟨S8192x8192, .bf16⟩
  | _, _ => ⟨S9216x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel6.lean ====
abbrev S8192x8192 : Shape := ⟨2, ![8192, 8192]⟩
abbrev S8192x4096 : Shape := ⟨2, ![8192, 4096]⟩
abbrev S1024x8192 : Shape := ⟨2, ![1024, 8192]⟩
abbrev S8192x512 : Shape := ⟨2, ![8192, 512]⟩
abbrev S1024x512 : Shape := ⟨2, ![1024, 512]⟩

abbrev nBuf : Space → Nat
  | .hbm => 7
  | .vmem => 7
  | .smem => 0
  | _ => 0

abbrev bufTy : (tb : Table) → Fin (tcTables nBuf tb) → BufTy
  | .hbm, ⟨0, _⟩ => ⟨S8192x8192, .f32⟩
  | .hbm, ⟨1, _⟩ => ⟨S8192x4096, .f32⟩
  | .hbm, ⟨2, _⟩ => ⟨S8192x8192, .f32⟩
  | .hbm, ⟨3, _⟩ => ⟨S8192x8192, .bf16⟩
  | .hbm, ⟨4, _⟩ => ⟨S8192x4096, .bf16⟩
  | .hbm, ⟨5, _⟩ => ⟨S8192x8192, .bf16⟩
  | .hbm, ⟨6, _⟩ => ⟨S8192x4096, .f32⟩
  | .local _ .vmem, ⟨0, _⟩ => ⟨S1024x8192, .bf16⟩
  | .local _ .vmem, ⟨1, _⟩ => ⟨S8192x512, .bf16⟩
  | .local _ .vmem, ⟨2, _⟩ => ⟨S8192x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .f32⟩
  | .local _ .vmem, ⟨6, _⟩ => ⟨S1024x512, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1024x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S8192x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference6Ideal.lean ====
abbrev S8192x8192 : Shape := ⟨2, ![8192, 8192]⟩
abbrev S8192x4096 : Shape := ⟨2, ![8192, 4096]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x4096, .f32⟩
  | .hbm, ⟨2, _⟩ => ⟨S8192x8192, .f32⟩
  | .hbm, ⟨3, _⟩ => ⟨S8192x8192, .f32⟩
  | .hbm, ⟨4, _⟩ => ⟨S8192x8192, .f32⟩
  | .hbm, ⟨5, _⟩ => ⟨S_, .f32⟩
  | .hbm, ⟨6, _⟩ => ⟨S8192x8192, .f32⟩
  | .hbm, ⟨7, _⟩ => ⟨S8192x8192, .f32⟩
  | .hbm, ⟨8, _⟩ => ⟨S_, .f32⟩
  | .hbm, ⟨9, _⟩ => ⟨S8192x8192, .f32⟩
  | .hbm, ⟨10, _⟩ => ⟨S8192x8192, .f32⟩
  | .hbm, ⟨11, _⟩ => ⟨S8192x4096, .f32⟩
  | .hbm, ⟨12, _⟩ => ⟨S8192x4096, .f32⟩
  | .hbm, ⟨13, _⟩ => ⟨S8192x4096, .f32⟩
  | .hbm, ⟨14, _⟩ => ⟨S8192x4096, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Kernel7.lean ====
abbrev S8192x5376 : Shape := ⟨2, ![8192, 5376]⟩
abbrev S5376x4096 : Shape := ⟨2, ![5376, 4096]⟩
abbrev S8192x8192 : Shape := ⟨2, ![8192, 8192]⟩
abbrev S8192x4096 : Shape := ⟨2, ![8192, 4096]⟩
abbrev S8192x16x336 : Shape := ⟨3, ![8192, 16, 336]⟩
abbrev S_ : Shape := ⟨0, ![]⟩
abbrev S8192x16x384 : Shape := ⟨3, ![8192, 16, 384]⟩
abbrev S8192x6144 : Shape := ⟨2, ![8192, 6144]⟩
abbrev S16x336x4096 : Shape := ⟨3, ![16, 336, 4096]⟩
abbrev S16x384x4096 : Shape := ⟨3, ![16, 384, 4096]⟩
abbrev S6144x4096 : Shape := ⟨2, ![6144, 4096]⟩
abbrev S1024x6144 : Shape := ⟨2, ![1024, 6144]⟩
abbrev S6144x512 : Shape := ⟨2, ![6144, 512]⟩
abbrev S1024x512 : Shape := ⟨2, ![1024, 512]⟩

abbrev nBuf : Space → Nat
  | .hbm => 18
  | .vmem => 10
  | .smem => 0
  | _ => 0

abbrev bufTy : (tb : Table) → Fin (tcTables nBuf tb) → BufTy
  | .hbm, ⟨0, _⟩ => ⟨S8192x5376, .f32⟩
  | .hbm, ⟨1, _⟩ => ⟨S5376x4096, .f32⟩
  | .hbm, ⟨2, _⟩ => ⟨S8192x8192, .f32⟩
  | .hbm, ⟨3, _⟩ => ⟨S8192x4096, .f32⟩
  | .hbm, ⟨4, _⟩ => ⟨S8192x16x336, .f32⟩
  | .hbm, ⟨5, _⟩ => ⟨S_, .i32⟩
  | .hbm, ⟨6, _⟩ => ⟨S_, .f32⟩
  | .hbm, ⟨7, _⟩ => ⟨S8192x16x384, .f32⟩
  | .hbm, ⟨8, _⟩ => ⟨S8192x6144, .f32⟩
  | .hbm, ⟨9, _⟩ => ⟨S8192x6144, .bf16⟩
  | .hbm, ⟨10, _⟩ => ⟨S5376x4096, .bf16⟩
  | .hbm, ⟨11, _⟩ => ⟨S16x336x4096, .bf16⟩
  | .hbm, ⟨12, _⟩ => ⟨S_, .i32⟩
  | .hbm, ⟨13, _⟩ => ⟨S_, .bf16⟩
  | .hbm, ⟨14, _⟩ => ⟨S16x384x4096, .bf16⟩
  | .hbm, ⟨15, _⟩ => ⟨S6144x4096, .bf16⟩
  | .hbm, ⟨16, _⟩ => ⟨S8192x8192, .bf16⟩
  | .hbm, ⟨17, _⟩ => ⟨S8192x4096, .bf16⟩
  | .local _ .vmem, ⟨0, _⟩ => ⟨S1024x6144, .bf16⟩
  | .local _ .vmem, ⟨1, _⟩ => ⟨S1024x6144, .bf16⟩
  | .local _ .vmem, ⟨2, _⟩ => ⟨S6144x512, .bf16⟩
  | .local _ .vmem, ⟨3, _⟩ => ⟨S6144x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .f32⟩
  | .local _ .vmem, ⟨7, _⟩ => ⟨S1024x512, .f32⟩
  | .local _ .vmem, ⟨8, _⟩ => ⟨S1024x512, .bf16⟩
  | .local _ .vmem, ⟨9, _⟩ => ⟨S1024x512, .bf16⟩
  | _, _ => ⟨S8192x5376, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_call1_v0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S6144x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference7Ideal.lean ====
abbrev S8192x5376 : Shape := ⟨2, ![8192, 5376]⟩
abbrev S5376x4096 : Shape := ⟨2, ![5376, 4096]⟩
abbrev S8192x8192 : Shape := ⟨2, ![8192, 8192]⟩
abbrev S8192x4096 : Shape := ⟨2, ![8192, 4096]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S8192x5376, .f32⟩
  | .hbm, ⟨1, _⟩ => ⟨S5376x4096, .f32⟩
  | .hbm, ⟨2, _⟩ => ⟨S8192x8192, .f32⟩
  | .hbm, ⟨3, _⟩ => ⟨S8192x4096, .f32⟩
  | .hbm, ⟨4, _⟩ => ⟨S8192x8192, .f32⟩
  | .hbm, ⟨5, _⟩ => ⟨S8192x8192, .f32⟩
  | .hbm, ⟨6, _⟩ => ⟨S_, .f32⟩
  | .hbm, ⟨7, _⟩ => ⟨S8192x8192, .f32⟩
  | .hbm, ⟨8, _⟩ => ⟨S8192x8192, .f32⟩
  | .hbm, ⟨9, _⟩ => ⟨S_, .f32⟩
  | .hbm, ⟨10, _⟩ => ⟨S8192x8192, .f32⟩
  | .hbm, ⟨11, _⟩ => ⟨S8192x8192, .f32⟩
  | .hbm, ⟨12, _⟩ => ⟨S8192x4096, .f32⟩
  | .hbm, ⟨13, _⟩ => ⟨S8192x4096, .f32⟩
  | .hbm, ⟨14, _⟩ => ⟨S8192x4096, .f32⟩
  | .hbm, ⟨15, _⟩ => ⟨S8192x4096, .f32⟩
  | .hbm, ⟨16, _⟩ => ⟨S8192x4096, .f32⟩
  | .hbm, ⟨17, _⟩ => ⟨S8192x4096, .bf16⟩
  | _, _ => ⟨S8192x5376, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]
-- ==== Kernel8.lean ====
abbrev S8192x4096 : Shape := ⟨2, ![8192, 4096]⟩
abbrev S4096x4096 : Shape := ⟨2, ![4096, 4096]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 5
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S8192x4096, .bf16⟩
  | .hbm, ⟨3, _⟩ => ⟨S4096x4096, .bf16⟩
  | .hbm, ⟨4, _⟩ => ⟨S8192x4096, .bf16⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .bf16⟩
  | .local _ .vmem, ⟨5, _⟩ => ⟨S1024x512, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference8Ideal.lean ====
abbrev S8192x4096 : Shape := ⟨2, ![8192, 4096]⟩
abbrev S4096x4096 : Shape := ⟨2, ![4096, 4096]⟩

abbrev nBuf : Space → Nat
  | .hbm => 4
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S8192x4096, .f32⟩
  | .hbm, ⟨3, _⟩ => ⟨S8192x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel2.lean ====
abbrev S9216x4096 : Shape := ⟨2, ![9216, 4096]⟩
abbrev S1x2x4096x22016 : Shape := ⟨4, ![1, 2, 4096, 22016]⟩
abbrev S1x2x11008x4096 : Shape := ⟨4, ![1, 2, 11008, 4096]⟩
abbrev S9216x11008 : Shape := ⟨2, ![9216, 11008]⟩
abbrev S11008x4096 : Shape := ⟨2, ![11008, 4096]⟩
abbrev S2304x4096 : Shape := ⟨2, ![2304, 4096]⟩
abbrev S1x1x4096x256 : Shape := ⟨4, ![1, 1, 4096, 256]⟩
abbrev S1x1x256x4096 : Shape := ⟨4, ![1, 1, 256, 4096]⟩
abbrev S2304x256 : Shape := ⟨2, ![2304, 256]⟩
abbrev S256x4096 : Shape := ⟨2, ![256, 4096]⟩
abbrev S4096x256 : Shape := ⟨2, ![4096, 256]⟩

abbrev nBuf : Space → Nat
  | .hbm => 6
  | .vmem => 11
  | .smem => 0
  | _ => 0

abbrev bufTy : (tb : Table) → Fin (tcTables nBuf tb) → BufTy
  | .hbm, ⟨0, _⟩ => ⟨S9216x4096, .f32⟩
  | .hbm, ⟨1, _⟩ => ⟨S1x2x4096x22016, .f32⟩
  | .hbm, ⟨2, _⟩ => ⟨S1x2x11008x4096, .f32⟩
  | .hbm, ⟨3, _⟩ => ⟨S9216x4096, .bf16⟩
  | .hbm, ⟨4, _⟩ => ⟨S9216x11008, .bf16⟩
  | .hbm, ⟨5, _⟩ => ⟨S11008x4096, .bf16⟩
  | .local _ .vmem, ⟨0, _⟩ => ⟨S2304x4096, .bf16⟩
  | .local _ .vmem, ⟨1, _⟩ => ⟨S1x1x4096x256, .f32⟩
  | .local _ .vmem, ⟨2, _⟩ => ⟨S1x1x4096x256, .f32⟩
  | .local _ .vmem, ⟨3, _⟩ => ⟨S1x1x4096x256, .f32⟩
  | .local _ .vmem, ⟨4, _⟩ => ⟨S1x1x4096x256, .f32⟩
  | .local _ .vmem, ⟨5, _⟩ => ⟨S1x1x256x4096, .f32⟩
  | .local _ .vmem, ⟨6, _⟩ => ⟨S1x1x256x4096, .f32⟩
  | .local _ .vmem, ⟨7, _⟩ => ⟨S2304x256, .bf16⟩
  | .local _ .vmem, ⟨8, _⟩ => ⟨S2304x256, .bf16⟩
  | .local _ .vmem, ⟨9, _⟩ => ⟨S256x4096, .bf16⟩
  | .local _ .vmem, ⟨10, _⟩ => ⟨S256x4096, .bf16⟩
  | _, _ => ⟨S9216x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![4, 43], ![false, false]⟩

def k0_cond1 (i : grid0.Coords) : BitVec 1 :=
  let arg0 : BitVec 32 := BitVec.ofNat 32 (i 0).val
  let c0_i32 : BitVec 32 := 0#32
  let v21 : BitVec 1 := Scalar.cmpi .eq arg0 c0_i32
  let v22 : BitVec 32 := Scalar.extui v21
  let c0_i32_15 : BitVec 32 := 0#32
  let v23 : BitVec 1 := Scalar.cmpi .ne v22 c0_i32_15
  v23

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  let c0_i32_3 : BitVec 32 := 0#32
  ![c0_i32_0.toNat, c0_i32_1.toNat, c0_i32_2.toNat, v0.toNat]

def cc0_transform_2 (i : grid0.Coords) : Fin 4 → Nat :=
  let arg0 : BitVec 32 := BitVec.ofNat 32 (i 0).val
  let arg1 : BitVec 32 := BitVec.ofNat 32 (i 1).val
  let c43_i32 : BitVec 32 := 43#32
  let v0 : BitVec 32 := Scalar.addi c43_i32 arg1
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, v0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c42_i32 : BitVec 32 := 42#32
  let v1 : BitVec 32 := Scalar.select v0 arg1 c42_i32
  let c0_i32_0 : BitVec 32 := 0#32
  let c0_i32_1 : BitVec 32 := 0#32
  let c0_i32_2 : BitVec 32 := 0#32
  let c0_i32_3 : BitVec 32 := 0#32
  ![c0_i32_0.toNat, c0_i32_1.toNat, v1.toNat, c0_i32_2.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c42_i32 : BitVec 32 := 42#32
  let v1 : BitVec 32 := Scalar.select v0 arg1 c42_i32
  let c0_i32_0 : BitVec 32 := 0#32
  let c0_i32_1 : BitVec 32 := 0#32
  ![v1.toNat, c0_i32_0.toNat]

abbrev stage0_0 : Fin 1 → Memref sig .tc .vmem S2304x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2304x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S9216x4096 : Shape := ⟨2, ![9216, 4096]⟩
abbrev S1x2x4096x22016 : Shape := ⟨4, ![1, 2, 4096, 22016]⟩
abbrev S1x2x11008x4096 : Shape := ⟨4, ![1, 2, 11008, 4096]⟩
abbrev S1x1x4096x22016 : Shape := ⟨4, ![1, 1, 4096, 22016]⟩
abbrev S4096x22016 : Shape := ⟨2, ![4096, 22016]⟩
abbrev S9216x22016 : Shape := ⟨2, ![9216, 22016]⟩
abbrev S9216x11008 : Shape := ⟨2, ![9216, 11008]⟩
abbrev S_ : Shape := ⟨0, ![]⟩
abbrev S1x1x11008x4096 : Shape := ⟨4, ![1, 1, 11008, 4096]⟩
abbrev S11008x4096 : Shape := ⟨2, ![11008, 4096]⟩

abbrev nBuf : Space → Nat
  | .hbm => 22
  | .vmem => 0
  | .smem => 0
  | _ => 0

abbrev bufTy : (tb : Table) → Fin (tcTables nBuf tb) → BufTy
  | .hbm, ⟨0, _⟩ => ⟨S9216x4096, .f32⟩
  | .hbm, ⟨1, _⟩ => ⟨S1x2x4096x22016, .f32⟩
  | .hbm, ⟨2, _⟩ => ⟨S1x2x11008x4096, .f32⟩
  | .hbm, ⟨3, _⟩ => ⟨S1x1x4096x22016, .f32⟩
  | .hbm, ⟨4, _⟩ => ⟨S4096x22016, .f32⟩
  | .hbm, ⟨5, _⟩ => ⟨S9216x22016, .f32⟩
  | .hbm, ⟨6, _⟩ => ⟨S9216x11008, .f32⟩
  | .hbm, ⟨7, _⟩ => ⟨S9216x11008, .f32⟩
  | .hbm, ⟨8, _⟩ => ⟨S9216x11008, .f32⟩
  | .hbm, ⟨9, _⟩ => ⟨S9216x11008, .f32⟩
  | .hbm, ⟨10, _⟩ => ⟨S_, .f32⟩
  | .hbm, ⟨11, _⟩ => ⟨S9216x11008, .f32⟩
  | .hbm, ⟨12, _⟩ => ⟨S9216x11008, .f32⟩
  | .hbm, ⟨13, _⟩ => ⟨S_, .f32⟩
  | .hbm, ⟨14, _⟩ => ⟨S9216x11008, .f32⟩
  | .hbm, ⟨15, _⟩ => ⟨S9216x11008, .f32⟩
  | .hbm, ⟨16, _⟩ => ⟨S9216x11008, .f32⟩
  | .hbm, ⟨17, _⟩ => ⟨S9216x11008, .f32⟩
  | .hbm, ⟨18, _⟩ => ⟨S9216x11008, .bf16⟩
  | .hbm, ⟨19, _⟩ => ⟨S1x1x11008x4096, .f32⟩
  | .hbm, ⟨20, _⟩ => ⟨S11008x4096, .f32⟩
  | .hbm, ⟨21, _⟩ => ⟨S11008x4096, .bf16⟩
  | _, _ => ⟨S9216x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩

abbrev nD : Nat := 1
abbrev τ : Topo := Topo.v7x

variable {F : FTy → Type} [FloatOps F]
-- ==== Kernel9.lean ====
abbrev S9216x4096 : Shape := ⟨2, ![9216, 4096]⟩
abbrev S1x4096x37632 : Shape := ⟨3, ![1, 4096, 37632]⟩
abbrev S1x8192x4096 : Shape := ⟨3, ![1, 8192, 4096]⟩
abbrev S8192x8192 : Shape := ⟨2, ![8192, 8192]⟩
abbrev S8192x4096 : Shape := ⟨2, ![8192, 4096]⟩
abbrev S2048x4096 : Shape := ⟨2, ![2048, 4096]⟩
abbrev S1x4096x256 : Shape := ⟨3, ![1, 4096, 256]⟩
abbrev S1x256x4096 : Shape := ⟨3, ![1, 256, 4096]⟩
abbrev S2048x256 : Shape := ⟨2, ![2048, 256]⟩
abbrev S256x4096 : Shape := ⟨2, ![256, 4096]⟩
abbrev S4096x256 : Shape := ⟨2, ![4096, 256]⟩

abbrev nBuf : Space → Nat
  | .hbm => 6
  | .vmem => 9
  | .smem => 0
  | _ => 0

abbrev bufTy : (tb : Table) → Fin (tcTables nBuf tb) → BufTy
  | .hbm, ⟨0, _⟩ => ⟨S9216x4096, .f32⟩
  | .hbm, ⟨1, _⟩ => ⟨S1x4096x37632, .f32⟩
  | .hbm, ⟨2, _⟩ => ⟨S1x8192x4096, .f32⟩
  | .hbm, ⟨3, _⟩ => ⟨S9216x4096, .bf16⟩
  | .hbm, ⟨4, _⟩ => ⟨S8192x8192, .bf16⟩
  | .hbm, ⟨5, _⟩ => ⟨S8192x4096, .bf16⟩
  | .local _ .vmem, ⟨0, _⟩ => ⟨S2048x4096, .bf16⟩
  | .local _ .vmem, ⟨1, _⟩ => ⟨S1x4096x256, .f32⟩
  | .local _ .vmem, ⟨2, _⟩ => ⟨S1x4096x256, .f32⟩
  | .local _ .vmem, ⟨3, _⟩ => ⟨S1x256x4096, .f32⟩
  | .local _ .vmem, ⟨4, _⟩ => ⟨S1x256x4096, .f32⟩
  | .local _ .vmem, ⟨5, _⟩ => ⟨S2048x256, .bf16⟩
  | .local _ .vmem, ⟨6, _⟩ => ⟨S2048x256, .bf16⟩
  | .local _ .vmem, ⟨7, _⟩ => ⟨S256x4096, .bf16⟩
  | .local _ .vmem, ⟨8, _⟩ => ⟨S256x4096, .bf16⟩
  | _, _ => ⟨S9216x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 32], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c115_i32 : BitVec 32 := 115#32
  let v0 : BitVec 32 := Scalar.addi c115_i32 arg1
  let c0_i32 : BitVec 32 := 0#32
  let c0_i32_0 : BitVec 32 := 0#32
  let c0_i32_1 : BitVec 32 := 0#32
  ![c0_i32.toNat, c0_i32_0.toNat, v0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c31_i32 : BitVec 32 := 31#32
  let v1 : BitVec 32 := Scalar.select v0 arg1 c31_i32
  let c0_i32_0 : BitVec 32 := 0#32
  let c0_i32_1 : BitVec 32 := 0#32
  let c0_i32_2 : BitVec 32 := 0#32
  ![c0_i32_0.toNat, v1.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c31_i32 : BitVec 32 := 31#32
  let v1 : BitVec 32 := Scalar.select v0 arg1 c31_i32
  let c0_i32_0 : BitVec 32 := 0#32
  let c0_i32_1 : BitVec 32 := 0#32
  ![v1.toNat, c0_i32_0.toNat]

abbrev stage0_0 : Fin 1 → Memref sig .tc .vmem S2048x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference9Ideal.lean ====
abbrev S9216x4096 : Shape := ⟨2, ![9216, 4096]⟩
abbrev S1x4096x37632 : Shape := ⟨3, ![1, 4096, 37632]⟩
abbrev S1x8192x4096 : Shape := ⟨3, ![1, 8192, 4096]⟩
abbrev S8192x4096 : Shape := ⟨2, ![8192, 4096]⟩
abbrev S4096x37632 : Shape := ⟨2, ![4096, 37632]⟩
abbrev S8192x37632 : Shape := ⟨2, ![8192, 37632]⟩
abbrev S8192x8192 : Shape := ⟨2, ![8192, 8192]⟩

abbrev nBuf : Space → Nat
  | .hbm => 10
  | .vmem => 0
  | .smem => 0
  | _ => 0

abbrev bufTy : (tb : Table) → Fin (tcTables nBuf tb) → BufTy
  | .hbm, ⟨0, _⟩ => ⟨S9216x4096, .f32⟩
  | .hbm, ⟨1, _⟩ => ⟨S1x4096x37632, .f32⟩
  | .hbm, ⟨2, _⟩ => ⟨S1x8192x4096, .f32⟩
  | .hbm, ⟨3, _⟩ => ⟨S8192x4096, .f32⟩
  | .hbm, ⟨4, _⟩ => ⟨S4096x37632, .f32⟩
  | .hbm, ⟨5, _⟩ => ⟨S8192x37632, .f32⟩
  | .hbm, ⟨6, _⟩ => ⟨S8192x8192, .f32⟩
  | .hbm, ⟨7, _⟩ => ⟨S8192x8192, .bf16⟩
  | .hbm, ⟨8, _⟩ => ⟨S8192x4096, .f32⟩
  | .hbm, ⟨9, _⟩ => ⟨S8192x4096, .bf16⟩
  | _, _ => ⟨S9216x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel10.lean ====
abbrev S9216x4096 : Shape := ⟨2, ![9216, 4096]⟩
abbrev S1x4096x37632 : Shape := ⟨3, ![1, 4096, 37632]⟩
abbrev S4096x37632 : Shape := ⟨2, ![4096, 37632]⟩
abbrev S4096x5376 : Shape := ⟨2, ![4096, 5376]⟩
abbrev S4096x16x336 : Shape := ⟨3, ![4096, 16, 336]⟩
abbrev S_ : Shape := ⟨0, ![]⟩
abbrev S4096x16x384 : Shape := ⟨3, ![4096, 16, 384]⟩
abbrev S4096x6144 : Shape := ⟨2, ![4096, 6144]⟩
abbrev S9216x6144 : Shape := ⟨2, ![9216, 6144]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 12
  | .vmem => 6
  | .smem => 0
  | _ => 0

abbrev bufTy : (tb : Table) → Fin (tcTables nBuf tb) → BufTy
  | .hbm, ⟨0, _⟩ => ⟨S9216x4096, .f32⟩
  | .hbm, ⟨1, _⟩ => ⟨S1x4096x37632, .f32⟩
  | .hbm, ⟨2, _⟩ => ⟨S9216x4096, .bf16⟩
  | .hbm, ⟨3, _⟩ => ⟨S4096x37632, .f32⟩
  | .hbm, ⟨4, _⟩ => ⟨S4096x5376, .f32⟩
  | .hbm, ⟨5, _⟩ => ⟨S4096x16x336, .f32⟩
  | .hbm, ⟨6, _⟩ => ⟨S_, .i32⟩
  | .hbm, ⟨7, _⟩ => ⟨S_, .f32⟩
  | .hbm, ⟨8, _⟩ => ⟨S4096x16x384, .f32⟩
  | .hbm, ⟨9, _⟩ => ⟨S4096x6144, .f32⟩
  | .hbm, ⟨10, _⟩ => ⟨S4096x6144, .bf16⟩
  | .hbm, ⟨11, _⟩ => ⟨S9216x6144, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S9216x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_call0_v0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![9, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference10Ideal.lean ====
abbrev S9216x4096 : Shape := ⟨2, ![9216, 4096]⟩
abbrev S1x4096x37632 : Shape := ⟨3, ![1, 4096, 37632]⟩
abbrev S4096x37632 : Shape := ⟨2, ![4096, 37632]⟩
abbrev S9216x37632 : Shape := ⟨2, ![9216, 37632]⟩
abbrev S9216x5376 : Shape := ⟨2, ![9216, 5376]⟩
abbrev S9216x16x336 : Shape := ⟨3, ![9216, 16, 336]⟩
abbrev S_ : Shape := ⟨0, ![]⟩
abbrev S9216x16x384 : Shape := ⟨3, ![9216, 16, 384]⟩
abbrev S9216x6144 : Shape := ⟨2, ![9216, 6144]⟩

abbrev nBuf : Space → Nat
  | .hbm => 11
  | .vmem => 0
  | .smem => 0
  | _ => 0

abbrev bufTy : (tb : Table) → Fin (tcTables nBuf tb) → BufTy
  | .hbm, ⟨0, _⟩ => ⟨S9216x4096, .f32⟩
  | .hbm, ⟨1, _⟩ => ⟨S1x4096x37632, .f32⟩
  | .hbm, ⟨2, _⟩ => ⟨S4096x37632, .f32⟩
  | .hbm, ⟨3, _⟩ => ⟨S9216x37632, .f32⟩
  | .hbm, ⟨4, _⟩ => ⟨S9216x5376, .f32⟩
  | .hbm, ⟨5, _⟩ => ⟨S9216x5376, .bf16⟩
  | .hbm, ⟨6, _⟩ => ⟨S9216x16x336, .bf16⟩
  | .hbm, ⟨7, _⟩ => ⟨S_, .i32⟩
  | .hbm, ⟨8, _⟩ => ⟨S_, .bf16⟩
  | .hbm, ⟨9, _⟩ => ⟨S9216x16x384, .bf16⟩
  | .hbm, ⟨10, _⟩ => ⟨S9216x6144, .bf16⟩
  | _, _ => ⟨S9216x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_call0_v0 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Proof.Scalar.lean ====
/-
  The scalar mathematics of the RG-LRU recurrence over the extended reals: the gate, the decay and the input scale as the kernel writes them
  against their textbook forms, and the linear recurrence cut into stretches.
-/
module

public import Idealize.ShloMosaic.PureOps.Ideal

@[expose] public section

noncomputable section

open Idealize.ShloMosaic

namespace Cert.Rglru

/-- The logistic function as the reference writes it. -/
def sigm (x : EReal) : EReal := Ideal.div 1 (1 + Ideal.exp (-x))

/-- Softplus as the kernel writes it. -/
def softp (x : EReal) : EReal := max x 0 + Ideal.log1p (Ideal.exp (-(max x (-x))))

/-- The logarithm of the decay, as the kernel associates the product. -/
def logA (lam s : EReal) : EReal := ((-8 : ℝ) : EReal) * softp (-lam) * sigm s

/-- The scale of the gated input, as the reference writes it. -/
def root (l : EReal) : EReal := Ideal.sqrt (-(Ideal.exp (((2 : ℝ) : EReal) * l) - 1))

/-- The logistic function at the lower end. -/
theorem sigm_bot : sigm ⊥ = 0 := by
  show Ideal.div 1 (1 + Ideal.exp (-⊥)) = 0
  rw [EReal.neg_bot]
  show Ideal.div 1 (1 + ⊤) = 0
  rw [EReal.add_top_of_ne_bot (by decide)]
  simp [Ideal.div]

/-- The logistic function at the upper end. -/
theorem sigm_top : sigm ⊤ = 1 := by
  show Ideal.div 1 (1 + Ideal.exp (-⊤)) = 1
  rw [EReal.neg_top]
  show Ideal.div 1 (1 + 0) = 1
  simp [Ideal.div]

/-- Minus one as a real number. -/
theorem neg_one_coe : (-1 : EReal) = ((-1 : ℝ) : EReal) := by
  rw [EReal.coe_neg, EReal.coe_one]

/-- The logistic function lies between zero and one, as a real number. -/
theorem sigm_real (x : EReal) : ∃ r : ℝ, 0 ≤ r ∧ r ≤ 1 ∧ sigm x = (r : EReal) := by
  induction x using EReal.rec with
  | bot => exact ⟨0, le_rfl, zero_le_one, sigm_bot⟩
  | top => exact ⟨1, zero_le_one, le_rfl, sigm_top⟩
  | coe r =>
    have hp : 0 < Real.exp (-r) := Real.exp_pos _
    refine ⟨(1 + Real.exp (-r))⁻¹, by positivity, inv_le_one_of_one_le₀ (by linarith), ?_⟩
    have h1 : ((1 : EReal) + ((Real.exp (-r) : ℝ) : EReal)) = ((1 + Real.exp (-r) : ℝ) : EReal) := by norm_cast
    have h0 : ((1 + Real.exp (-r) : ℝ) : EReal) ≠ 0 := by
      norm_cast; positivity
    show Ideal.div 1 (1 + Ideal.exp (-(r : EReal))) = _
    rw [← EReal.coe_neg]
    show Ideal.div 1 (1 + ((Real.exp (-r) : ℝ) : EReal)) = _
    rw [h1, Ideal.div, if_neg h0, one_mul, EReal.coe_inv]

/-- The gate through the hyperbolic tangent is the logistic function. -/
theorem half_tanh (x : EReal) : ((1 / 2 : ℝ) : EReal) * Ideal.tanh (((1 / 2 : ℝ) : EReal) * x) + ((1 / 2 : ℝ) : EReal) = sigm x := by
  induction x using EReal.rec with
  | bot =>
    rw [EReal.coe_mul_bot_of_pos (by norm_num)]
    show ((1 / 2 : ℝ) : EReal) * (-1) + ((1 / 2 : ℝ) : EReal) = _
    rw [sigm_bot, neg_one_coe, ← EReal.coe_mul, ← EReal.coe_add]; norm_num
  | top =>
    rw [EReal.coe_mul_top_of_pos (by norm_num)]
    show ((1 / 2 : ℝ) : EReal) * 1 + ((1 / 2 : ℝ) : EReal) = _
    rw [sigm_top, ← EReal.coe_one, ← EReal.coe_mul, ← EReal.coe_add]; norm_num
  | coe r =>
    have h1 : ((1 : EReal) + ((Real.exp (-r) : ℝ) : EReal)) = ((1 + Real.exp (-r) : ℝ) : EReal) := by norm_cast
    have h0 : ((1 + Real.exp (-r) : ℝ) : EReal) ≠ 0 := by
      norm_cast; positivity
    have hs : sigm (r : EReal) = (((1 + Real.exp (-r))⁻¹ : ℝ) : EReal) := by
      show Ideal.div 1 (1 + Ideal.exp (-(r : EReal))) = _
      rw [← EReal.coe_neg]
      show Ideal.div 1 (1 + ((Real.exp (-r) : ℝ) : EReal)) = _
      rw [h1, Ideal.div, if_neg h0, one_mul, EReal.coe_inv]
    rw [hs, ← EReal.coe_mul]
    show ((1 / 2 : ℝ) : EReal) * ((Real.tanh (1 / 2 * r) : ℝ) : EReal) + ((1 / 2 : ℝ) : EReal) = _
    rw [← EReal.coe_mul, ← EReal.coe_add]
    congr 1
    have e1 : Real.exp (-r) = Real.exp (-(1 / 2 * r)) * Real.exp (-(1 / 2 * r)) := by rw [← Real.exp_add]; congr 1; ring
    have e2 : Real.exp (1 / 2 * r) * Real.exp (-(1 / 2 * r)) = 1 := by rw [← Real.exp_add]; simp
    have hp := Real.exp_pos (1 / 2 * r)
    have hq := Real.exp_pos (-(1 / 2 * r))
    rw [Real.tanh_eq_sinh_div_cosh, Real.sinh_eq, Real.cosh_eq, e1]
    generalize Real.exp (1 / 2 * r) = u at *
    generalize Real.exp (-(1 / 2 * r)) = v at *
    have : u + v ≠ 0 := by positivity
    have : 1 + v * v ≠ 0 := by positivity
    field_simp
    nlinarith [e2]

/-- Softplus is not negative. -/
theorem softp_nonneg (x : EReal) : 0 ≤ softp x := by
  have h1 : (0 : EReal) ≤ max x 0 := le_max_right _ _
  have he : ∀ y : EReal, 0 ≤ Ideal.exp y := by
    intro y
    induction y using EReal.rec with
    | bot => exact le_rfl
    | top => exact le_top
    | coe r => exact EReal.coe_nonneg.mpr (Real.exp_pos r).le
  have hl : ∀ y : EReal, 0 ≤ y → 0 ≤ Ideal.log1p y := by
    intro y hy
    induction y using EReal.rec with
    | bot => simp at hy
    | top => show (0 : EReal) ≤ Ideal.log (1 + ⊤); rw [EReal.add_top_of_ne_bot (by decide)]; exact le_top
    | coe r =>
      have hr : 0 ≤ r := EReal.coe_nonneg.mp hy
      have h1 : ((1 : EReal) + (r : EReal)) = ((1 + r : ℝ) : EReal) := by norm_cast
      show (0 : EReal) ≤ Ideal.log (1 + (r : EReal))
      rw [h1]
      show (0 : EReal) ≤ if 1 + r ≤ 0 then ⊥ else ((Real.log (1 + r) : ℝ) : EReal)
      rw [if_neg (by linarith)]
      exact EReal.coe_nonneg.mpr (Real.log_nonneg (by linarith))
  exact add_nonneg h1 (hl _ (he _))

/-- The logarithm of the decay is not positive. -/
theorem logA_nonpos (lam s : EReal) : logA lam s ≤ 0 := by
  obtain ⟨r, h0, -, hr⟩ := sigm_real s
  have hn : (0 : EReal) ≤ (r : EReal) := EReal.coe_nonneg.mpr h0
  have h8 : ((-8 : ℝ) : EReal) * softp (-lam) ≤ 0 :=
    EReal.mul_nonpos_iff.mpr (Or.inr ⟨by norm_cast, softp_nonneg _⟩)
  rw [logA, hr]
  exact EReal.mul_nonpos_iff.mpr (Or.inr ⟨h8, hn⟩)

/-- The exponential of a number that is not positive is a real number that is not negative. -/
theorem exp_real {l : EReal} (h : l ≤ 0) : ∃ r : ℝ, 0 ≤ r ∧ Ideal.exp l = (r : EReal) := by
  induction l using EReal.rec with
  | bot => exact ⟨0, le_rfl, rfl⟩
  | top => simp at h
  | coe r => exact ⟨Real.exp r, (Real.exp_pos r).le, rfl⟩

/-- The kernel's quotient in the hyperbolic tangent is one minus the square of the decay. -/
theorem tanh_quot {l : EReal} (h : l ≤ 0) :
    Ideal.div (Ideal.tanh l + Ideal.tanh l) (Ideal.tanh l - 1) = -(Ideal.exp (((2 : ℝ) : EReal) * l) - 1)
      ∧ ∃ q : ℝ, 0 ≤ q ∧ -(Ideal.exp (((2 : ℝ) : EReal) * l) - 1) = (q : EReal) := by
  induction l using EReal.rec with
  | bot =>
    rw [EReal.coe_mul_bot_of_pos (by norm_num)]
    have hv : -(Ideal.exp ⊥ - 1) = ((1 : ℝ) : EReal) := by
      show -((0 : EReal) - 1) = _
      simp
    refine ⟨?_, 1, zero_le_one, hv⟩
    rw [hv]
    show Ideal.div (-1 + -1) (-1 - 1) = _
    have e1 : ((-1 : EReal) + -1) = ((-2 : ℝ) : EReal) := by
      rw [neg_one_coe, ← EReal.coe_add]; norm_num
    have e2 : ((-1 : EReal) - 1) = ((-2 : ℝ) : EReal) := by
      rw [neg_one_coe, ← EReal.coe_one, ← EReal.coe_sub]; norm_num
    rw [e1, e2, Ideal.div, if_neg (by norm_cast), ← EReal.coe_inv, ← EReal.coe_mul]
    norm_num
  | top => simp at h
  | coe r =>
    have hr : r ≤ 0 := EReal.coe_nonpos.mp h
    have hv : -(Ideal.exp (((2 : ℝ) : EReal) * (r : EReal)) - 1) = ((1 - Real.exp (2 * r) : ℝ) : EReal) := by
      rw [← EReal.coe_mul]
      show -(((Real.exp (2 * r) : ℝ) : EReal) - 1) = _
      rw [← EReal.coe_one, ← EReal.coe_sub, ← EReal.coe_neg, neg_sub]
    refine ⟨?_, 1 - Real.exp (2 * r), ?_, hv⟩
    · rw [hv]
      show Ideal.div (((Real.tanh r : ℝ) : EReal) + ((Real.tanh r : ℝ) : EReal)) (((Real.tanh r : ℝ) : EReal) - 1) = _
      have e2 : Real.exp r * Real.exp (-r) = 1 := by rw [← Real.exp_add]; simp
      have e3 : Real.exp (2 * r) = Real.exp r * Real.exp r := by rw [← Real.exp_add]; congr 1; ring
      have hp := Real.exp_pos r
      have hq := Real.exp_pos (-r)
      have ht : Real.tanh r = (Real.exp r - Real.exp (-r)) / (Real.exp r + Real.exp (-r)) := by
        rw [Real.tanh_eq_sinh_div_cosh, Real.sinh_eq, Real.cosh_eq]
        field_simp
      have hne : Real.tanh r - 1 = -2 * Real.exp (-r) / (Real.exp r + Real.exp (-r)) := by
        rw [ht]; field_simp; ring
      have hnz : Real.tanh r - 1 ≠ 0 := by
        rw [hne]
        have : 0 < 2 * Real.exp (-r) / (Real.exp r + Real.exp (-r)) := by positivity
        intro h; rw [neg_mul, neg_div] at h; linarith
      rw [← EReal.coe_one, ← EReal.coe_sub, ← EReal.coe_add, Ideal.div, if_neg (by norm_cast), ← EReal.coe_inv, ← EReal.coe_mul]
      congr 1
      rw [← div_eq_mul_inv, div_eq_iff hnz, hne, ht, e3]
      generalize Real.exp r = u at *
      generalize Real.exp (-r) = v at *
      have : u + v ≠ 0 := by positivity
      field_simp
      nlinarith [e2]
    · have : Real.exp (2 * r) ≤ 1 := Real.exp_le_one_iff.mpr (by linarith)
      linarith

/-- The guarded product with the reciprocal square root is the square root, off the negative numbers. -/
theorem guarded_root {q : EReal} (h : ∃ r : ℝ, 0 ≤ r ∧ q = (r : EReal)) :
    (if 0 < q then q * Ideal.rsqrt q else 0) = Ideal.sqrt q := by
  obtain ⟨r, h0, rfl⟩ := h
  show (if 0 < (r : EReal) then (r : EReal) * (if r < 0 then ⊥ else if r = 0 then ⊤ else (((Real.sqrt r)⁻¹ : ℝ) : EReal)) else 0)
    = (if r < 0 then ⊥ else ((Real.sqrt r : ℝ) : EReal))
  rw [if_neg (not_lt.mpr h0), if_neg (not_lt.mpr h0)]
  rcases eq_or_lt_of_le h0 with h | h
  · subst h; simp
  · rw [if_pos (EReal.coe_pos.mpr h), if_neg h.ne', ← EReal.coe_mul]
    congr 1
    rw [← div_eq_mul_inv, Real.div_sqrt]

/-- The kernel's input scale is the reference's. -/
theorem kernel_root {l : EReal} (h : l ≤ 0) :
    (if 0 < Ideal.div (Ideal.tanh l + Ideal.tanh l) (Ideal.tanh l - 1)
      then Ideal.div (Ideal.tanh l + Ideal.tanh l) (Ideal.tanh l - 1) * Ideal.rsqrt (Ideal.div (Ideal.tanh l + Ideal.tanh l) (Ideal.tanh l - 1))
      else 0) = root l := by
  obtain ⟨h1, h2⟩ := tanh_quot h
  rw [h1, guarded_root h2, root]

/-- The linear recurrence from `h0`: `scan a b h0 n` is the state after `n` steps. -/
def scan (a b : ℕ → EReal) (h0 : EReal) : ℕ → EReal
  | 0 => h0
  | n + 1 => a n * scan a b h0 n + b n

/-- The running product of the decays over the first `n + 1` steps, in the order the kernel multiplies. -/
def prods (a : ℕ → EReal) : ℕ → EReal
  | 0 => a 0
  | n + 1 => a (n + 1) * prods a n

/-- The local scan over the first `n + 1` steps, entered with nothing. -/
def locs (a b : ℕ → EReal) : ℕ → EReal
  | 0 => b 0
  | n + 1 => a (n + 1) * locs a b n + b (n + 1)

/-- A recurrence entered with `h0` is the local scan plus the product of the decays times `h0`. -/
theorem scan_eq (a b : ℕ → EReal) (ha : ∀ n, 0 ≤ a n ∧ a n ≠ ⊤) (h0 : EReal) :
    ∀ n, scan a b h0 (n + 1) = locs a b n + prods a n * h0
  | 0 => by show a 0 * h0 + b 0 = b 0 + a 0 * h0; rw [add_comm]
  | n + 1 => by
    show a (n + 1) * scan a b h0 (n + 1) + b (n + 1) = (a (n + 1) * locs a b n + b (n + 1)) + a (n + 1) * prods a n * h0
    rw [scan_eq a b ha h0 n, EReal.left_distrib_of_nonneg_of_ne_top (ha _).1 (ha _).2, mul_assoc, add_right_comm]

/-- A recurrence run on from step `k` is the recurrence of the shifted coefficients. -/
theorem scan_add (a b : ℕ → EReal) (h0 : EReal) (k : ℕ) :
    ∀ n, scan a b h0 (k + n) = scan (fun i => a (k + i)) (fun i => b (k + i)) (scan a b h0 k) n
  | 0 => rfl
  | n + 1 => by
    show a (k + n) * scan a b h0 (k + n) + b (k + n) = _
    rw [scan_add a b h0 k n]; rfl

/-- Without input the recurrence entered with nothing stays at zero. -/
theorem scan_zero (a b : ℕ → EReal) (hb : ∀ n, b n = 0) : ∀ n, scan a b 0 n = 0
  | 0 => rfl
  | n + 1 => by
    show a n * scan a b 0 n + b n = 0
    rw [scan_zero a b hb n, hb, mul_zero, add_zero]

/-- A recurrence depends on the coefficients of the steps it takes. -/
theorem scan_congr {a b a' b' : ℕ → EReal} (h0 : EReal) : ∀ n, (∀ i, i < n → a i = a' i) → (∀ i, i < n → b i = b' i) →
    scan a b h0 n = scan a' b' h0 n
  | 0, _, _ => rfl
  | n + 1, ha, hb => by
    show a n * scan a b h0 n + b n = a' n * scan a' b' h0 n + b' n
    rw [scan_congr h0 n (fun i hi => ha i (by omega)) (fun i hi => hb i (by omega)), ha n (by omega), hb n (by omega)]

end Cert.Rglru

end
-- ==== Proof.Coef.lean ====
module

public import proofs.«01_k».proof.Proof.Gen.KernelIdeal.Skeleton
public import proofs.«01_k».proof.Proof.Scalar
public import Idealize.ShloMosaic.Lib.Pipeline.ValueKit
public import Idealize.ShloMosaic.Lib.Pipeline.ReadBack

@[expose] public section

set_option maxRecDepth 16384
noncomputable section
open Idealize.ShloMosaic Idealize.ShloMosaic.TcCoe Idealize.SL.Sem
namespace Cert.KernelIdeal.Point
open Cert.KernelIdeal Cert.KernelIdeal.Gen Cert.Rglru

/-- The activations of a point: the context's at the first point of a row, a latent block's at the others. -/
def act (i : grid0.Coords) (xc xl : Vec Ideal S32x8x1536 .f32) : Vec Ideal S32x8x1536 .f32 :=
  fun j => if (i 2).val = 0 then xc j else xl j

/-- A gate's argument at row `r`, segment `s`, lane `384 k + l`. -/
def lin (X : Vec Ideal S32x8x1536 .f32) (W : Vec Ideal S4x384x384 .bf16) (β : Vec Ideal S1x1536 .f32) (k : Fin 4) (r : Fin 32) (s : Fin 8) (l : Fin 384) : EReal :=
  (∑ q : Fin 384, (X (ix3 r s ⟨384 * k.val + q.val, by omega⟩) : EReal) * (W (ix3 k q l) : EReal)) + (β (ix2 0 ⟨384 * k.val + l.val, by omega⟩) : EReal)

/-- The literal one half. -/
theorem c_half : Ideal.ofBits FTy.f32 1056964608#32 = ((1 / 2 : ℝ) : EReal) := by
  simp [Ideal.ofBits, Ideal.ieee]; norm_num [zpow_neg]; rw [← EReal.coe_mul]; norm_num

/-- The literal minus eight. -/
theorem c_neg8 : Ideal.ofBits FTy.f32 3238002688#32 = ((-8 : ℝ) : EReal) := by
  simp [Ideal.ofBits, Ideal.ieee]; norm_num [zpow_neg]; rw [← EReal.coe_mul]; norm_num

/-- The literal one. -/
theorem c_one : Ideal.ofBits FTy.f32 1065353216#32 = 1 := by
  simp [Ideal.ofBits, Ideal.ieee]; norm_num [zpow_neg]; rw [← EReal.coe_mul]; norm_num

/-- The absolute value is the larger of a number and its negative. -/
theorem abs_eq (x : EReal) : (FloatOps.absf (F := Ideal) (φ := .f32) x : EReal) = max x (-x) := rfl

/-- The choice of the activations, as the kernel makes it. -/
theorem sel_eq (i : grid0.Coords) (a b : EReal) :
    Scalar.select (Scalar.cmpi CmpIPredicate.eq (BitVec.ofNat 32 (i 2).val) 0#32) a b = if (i 2).val = 0 then a else b := by
  have h : (i 2).val < 9 := (i 2).isLt
  by_cases h0 : (i 2).val = 0
  · rw [if_pos h0, h0]; rfl
  · rw [if_neg h0]
    have : (BitVec.ofNat 32 (i 2).val == 0#32) = false := by
      rw [beq_eq_false_iff_ne]; intro he
      have := congrArg BitVec.toNat he
      simp [BitVec.toNat_ofNat] at this
      omega
    simp [Scalar.select, Scalar.cmpi, IntOp.cmpi, this]

/-- The guard of the root, as the kernel makes it. -/
theorem guard_eq (q a b : EReal) :
    Scalar.select (FloatOps.cmpf (F := Ideal) (φ := .f32) CmpFPredicate.ogt q (0 : EReal)) a b = if 0 < q then a else b := by
  by_cases h : 0 < q
  · rw [if_pos h]
    show (if BitVec.ofBool (decide ((0 : EReal) < q)) = 1 then a else b) = a
    simp [h]
  · rw [if_neg h]
    show (if BitVec.ofBool (decide ((0 : EReal) < q)) = 1 then a else b) = b
    simp [h]

/-- The kernel's softplus, folded. -/
theorem softp_fold (x : EReal) : max (-x) 0 + Ideal.log1p (Ideal.exp (-(max (-x) (- -x)))) = softp (-x) := rfl

/-- The kernel's logarithm of the decay, folded. -/
theorem logA_fold (x y : EReal) : ((-8 : ℝ) : EReal) * softp (-x) * sigm y = logA x y := rfl

/-- The kernel's root of a decay, folded. -/
theorem root_fold (x y : EReal) :
    (if 0 < Ideal.div (Ideal.tanh (logA x y) + Ideal.tanh (logA x y)) (Ideal.tanh (logA x y) - 1)
      then Ideal.div (Ideal.tanh (logA x y) + Ideal.tanh (logA x y)) (Ideal.tanh (logA x y) - 1)
        * Ideal.rsqrt (Ideal.div (Ideal.tanh (logA x y) + Ideal.tanh (logA x y)) (Ideal.tanh (logA x y) - 1))
      else 0) = root (logA x y) := kernel_root (logA_nonpos x y)

/-- The decay the kernel stores, at row `r`, segment `s`, lane `384 k + l`. -/
def decay (i : grid0.Coords) (xc xl : Vec Ideal S32x8x1536 .f32) (Wa Wx : Vec Ideal S4x384x384 .bf16) (βa βx lam : Vec Ideal S1x1536 .f32) (k : Fin 4) (r : Fin 32) (s : Fin 8) (l : Fin 384) : EReal :=
  Ideal.exp (logA (lam (ix2 0 ⟨384 * k.val + l.val, by omega⟩)) (lin (act i xc xl) Wa βa k r s l))

/-- The input the kernel stores, at row `r`, segment `s`, lane `384 k + l`. -/
def input (i : grid0.Coords) (xc xl : Vec Ideal S32x8x1536 .f32) (Wa Wx : Vec Ideal S4x384x384 .bf16) (βa βx lam : Vec Ideal S1x1536 .f32) (k : Fin 4) (r : Fin 32) (s : Fin 8) (l : Fin 384) : EReal :=
  root (logA (lam (ix2 0 ⟨384 * k.val + l.val, by omega⟩)) (lin (act i xc xl) Wa βa k r s l))
    * (sigm (lin (act i xc xl) Wx βx k r s l) * act i xc xl (ix3 r s ⟨384 * k.val + l.val, by omega⟩))

/-- The decays the kernel stores for column block 0. -/
theorem decay_0 (i : grid0.Coords) (xc xl : Vec Ideal S32x8x1536 .f32) (Wa Wx : Vec Ideal S4x384x384 .bf16) (βa βx lam : Vec Ideal S1x1536 .f32) (r : Fin 32) (s : Fin 8) (l : Fin 384) :
    (k0_pay51 (k0_pay46 lam) (k0_pay48 i xc xl (View.ld Wa (Rect.unit ![0, 0, 0] ![1, 384, 384] inb_S4x384x384_S1x384x384_0_0_0)) (View.ld βa (Rect.unit ![0, 0] ![1, 384] inb_S1x1536_S1x384_0_0))) k0_pay49 (ix3 r s l) : EReal) = decay i xc xl Wa Wx βa βx lam 0 r s l := by
  pointwise [k0_pay51, k0_pay50, k0_pay48, k0_pay47, k0_pay49, k0_pay46, k0_pay45, k0_pay44]
  simp only [c_half, c_neg8, half_tanh, abs_eq, zero_sub, sel_eq, softp_fold, logA_fold]
  simp only [decay, lin, act, Fin.isValue, Fin.val_zero, Nat.mul_zero, Nat.zero_add]

/-- The inputs the kernel stores for column block 0. -/
theorem input_0 (i : grid0.Coords) (xc xl : Vec Ideal S32x8x1536 .f32) (Wa Wx : Vec Ideal S4x384x384 .bf16) (βa βx lam : Vec Ideal S1x1536 .f32) (r : Fin 32) (s : Fin 8) (l : Fin 384) :
    (k0_pay53 (k0_pay52 (k0_pay44 i xc xl) (k0_pay46 lam) (k0_pay47 i xc xl) (k0_pay48 i xc xl (View.ld Wa (Rect.unit ![0, 0, 0] ![1, 384, 384] inb_S4x384x384_S1x384x384_0_0_0)) (View.ld βa (Rect.unit ![0, 0] ![1, 384] inb_S1x1536_S1x384_0_0))) k0_pay49 (View.ld Wx (Rect.unit ![0, 0, 0] ![1, 384, 384] inb_S4x384x384_S1x384x384_0_0_0)) (View.ld βx (Rect.unit ![0, 0] ![1, 384] inb_S1x1536_S1x384_0_0))) (ix3 r s l) : EReal) = input i xc xl Wa Wx βa βx lam 0 r s l := by
  pointwise [k0_pay53, k0_pay52, k0_pay50, k0_pay48, k0_pay47, k0_pay49, k0_pay46, k0_pay45, k0_pay44]
  simp only [c_half, c_neg8, half_tanh, abs_eq, zero_sub, sel_eq, guard_eq, softp_fold, logA_fold, root_fold]
  simp only [input, lin, act, Fin.isValue, Fin.val_zero, Nat.mul_zero, Nat.zero_add]

/-- The decays the kernel stores for column block 1. -/
theorem decay_1 (i : grid0.Coords) (xc xl : Vec Ideal S32x8x1536 .f32) (Wa Wx : Vec Ideal S4x384x384 .bf16) (βa βx lam : Vec Ideal S1x1536 .f32) (r : Fin 32) (s : Fin 8) (l : Fin 384) :
    (k0_pay58 (k0_pay57 (k0_pay45 i xc xl) (k0_pay46 lam) (View.ld Wa (Rect.unit ![1, 0, 0] ![1, 384, 384] inb_S4x384x384_S1x384x384_1_0_0)) (View.ld βa (Rect.unit ![0, 384] ![1, 384] inb_S1x1536_S1x384_0_384))) (ix3 r s l) : EReal) = decay i xc xl Wa Wx βa βx lam 1 r s l := by
  pointwise [k0_pay58, k0_pay57, k0_pay56, k0_pay54, k0_pay46, k0_pay45, k0_pay44]
  simp only [c_half, c_neg8, half_tanh, abs_eq, zero_sub, sel_eq, softp_fold, logA_fold]
  rfl

/-- The inputs the kernel stores for column block 1. -/
theorem input_1 (i : grid0.Coords) (xc xl : Vec Ideal S32x8x1536 .f32) (Wa Wx : Vec Ideal S4x384x384 .bf16) (βa βx lam : Vec Ideal S1x1536 .f32) (r : Fin 32) (s : Fin 8) (l : Fin 384) :
    (k0_pay59 (k0_pay44 i xc xl) (k0_pay55 (k0_pay45 i xc xl) (View.ld Wx (Rect.unit ![1, 0, 0] ![1, 384, 384] inb_S4x384x384_S1x384x384_1_0_0)) (View.ld βx (Rect.unit ![0, 384] ![1, 384] inb_S1x1536_S1x384_0_384))) (k0_pay56 (k0_pay45 i xc xl) (k0_pay46 lam) (View.ld Wa (Rect.unit ![1, 0, 0] ![1, 384, 384] inb_S4x384x384_S1x384x384_1_0_0)) (View.ld βa (Rect.unit ![0, 384] ![1, 384] inb_S1x1536_S1x384_0_384))) (ix3 r s l) : EReal) = input i xc xl Wa Wx βa βx lam 1 r s l := by
  pointwise [k0_pay59, k0_pay55, k0_pay56, k0_pay54, k0_pay46, k0_pay45, k0_pay44]
  simp only [c_half, c_neg8, half_tanh, abs_eq, zero_sub, sel_eq, guard_eq, softp_fold, logA_fold, root_fold]
  rfl

/-- The decays the kernel stores for column block 2. -/
theorem decay_2 (i : grid0.Coords) (xc xl : Vec Ideal S32x8x1536 .f32) (Wa Wx : Vec Ideal S4x384x384 .bf16) (βa βx lam : Vec Ideal S1x1536 .f32) (r : Fin 32) (s : Fin 8) (l : Fin 384) :
    (k0_pay63 (k0_pay46 lam) (k0_pay61 (k0_pay45 i xc xl) (View.ld Wa (Rect.unit ![2, 0, 0] ![1, 384, 384] inb_S4x384x384_S1x384x384_2_0_0)) (View.ld βa (Rect.unit ![0, 768] ![1, 384] inb_S1x1536_S1x384_0_768))) (ix3 r s l) : EReal) = decay i xc xl Wa Wx βa βx lam 2 r s l := by
  pointwise [k0_pay63, k0_pay62, k0_pay61, k0_pay60, k0_pay46, k0_pay45, k0_pay44]
  simp only [c_half, c_neg8, half_tanh, abs_eq, zero_sub, sel_eq, softp_fold, logA_fold]
  rfl

/-- The inputs the kernel stores for column block 2. -/
theorem input_2 (i : grid0.Coords) (xc xl : Vec Ideal S32x8x1536 .f32) (Wa Wx : Vec Ideal S4x384x384 .bf16) (βa βx lam : Vec Ideal S1x1536 .f32) (r : Fin 32) (s : Fin 8) (l : Fin 384) :
    (k0_pay64 (k0_pay44 i xc xl) (k0_pay46 lam) (k0_pay60 (k0_pay45 i xc xl)) (k0_pay61 (k0_pay45 i xc xl) (View.ld Wa (Rect.unit ![2, 0, 0] ![1, 384, 384] inb_S4x384x384_S1x384x384_2_0_0)) (View.ld βa (Rect.unit ![0, 768] ![1, 384] inb_S1x1536_S1x384_0_768))) (View.ld Wx (Rect.unit ![2, 0, 0] ![1, 384, 384] inb_S4x384x384_S1x384x384_2_0_0)) (View.ld βx (Rect.unit ![0, 768] ![1, 384] inb_S1x1536_S1x384_0_768)) (ix3 r s l) : EReal) = input i xc xl Wa Wx βa βx lam 2 r s l := by
  pointwise [k0_pay64, k0_pay62, k0_pay61, k0_pay60, k0_pay46, k0_pay45, k0_pay44]
  simp only [c_half, c_neg8, half_tanh, abs_eq, zero_sub, sel_eq, guard_eq, softp_fold, logA_fold, root_fold]
  rfl

/-- The decays the kernel stores for column block 3. -/
theorem decay_3 (i : grid0.Coords) (xc xl : Vec Ideal S32x8x1536 .f32) (Wa Wx : Vec Ideal S4x384x384 .bf16) (βa βx lam : Vec Ideal S1x1536 .f32) (r : Fin 32) (s : Fin 8) (l : Fin 384) :
    (k0_pay68 (k0_pay46 lam) (k0_pay65 (k0_pay45 i xc xl)) (View.ld Wa (Rect.unit ![3, 0, 0] ![1, 384, 384] inb_S4x384x384_S1x384x384_3_0_0)) (View.ld βa (Rect.unit ![0, 1152] ![1, 384] inb_S1x1536_S1x384_0_1152)) (ix3 r s l) : EReal) = decay i xc xl Wa Wx βa βx lam 3 r s l := by
  pointwise [k0_pay68, k0_pay67, k0_pay65, k0_pay46, k0_pay45, k0_pay44]
  simp only [c_half, c_neg8, half_tanh, abs_eq, zero_sub, sel_eq, softp_fold, logA_fold]
  rfl

/-- The inputs the kernel stores for column block 3. -/
theorem input_3 (i : grid0.Coords) (xc xl : Vec Ideal S32x8x1536 .f32) (Wa Wx : Vec Ideal S4x384x384 .bf16) (βa βx lam : Vec Ideal S1x1536 .f32) (r : Fin 32) (s : Fin 8) (l : Fin 384) :
    (k0_pay72 (k0_pay44 i xc xl) (k0_pay66 (k0_pay65 (k0_pay45 i xc xl)) (View.ld Wx (Rect.unit ![3, 0, 0] ![1, 384, 384] inb_S4x384x384_S1x384x384_3_0_0)) (View.ld βx (Rect.unit ![0, 1152] ![1, 384] inb_S1x1536_S1x384_0_1152))) (k0_pay70 (k0_pay46 lam) (k0_pay65 (k0_pay45 i xc xl)) (View.ld Wa (Rect.unit ![3, 0, 0] ![1, 384, 384] inb_S4x384x384_S1x384x384_3_0_0)) (View.ld βa (Rect.unit ![0, 1152] ![1, 384] inb_S1x1536_S1x384_0_1152))) (k0_pay71 (k0_pay46 lam) (k0_pay65 (k0_pay45 i xc xl)) (View.ld Wa (Rect.unit ![3, 0, 0] ![1, 384, 384] inb_S4x384x384_S1x384x384_3_0_0)) (View.ld βa (Rect.unit ![0, 1152] ![1, 384] inb_S1x1536_S1x384_0_1152))) (ix3 r s l) : EReal) = input i xc xl Wa Wx βa βx lam 3 r s l := by
  pointwise [k0_pay72, k0_pay66, k0_pay67, k0_pay69, k0_pay70, k0_pay71, k0_pay65, k0_pay46, k0_pay45, k0_pay44]
  simp only [c_half, c_neg8, half_tanh, abs_eq, zero_sub, sel_eq, guard_eq, softp_fold, logA_fold, root_fold]
  rfl

end Cert.KernelIdeal.Point
end
-- ==== Proof.Coef2.lean ====
module

public import proofs.«01_k».proof.Proof.Gen.KernelIdeal.Launch
public import proofs.«01_k».proof.Proof.Coef
public import Idealize.ShloMosaic.Lib.Pipeline.ValueKit
public import Idealize.ShloMosaic.Lib.Pipeline.ReadBack

@[expose] public section

set_option maxRecDepth 16384
noncomputable section
open Idealize.ShloMosaic Idealize.ShloMosaic.TcCoe Idealize.SL.Sem
namespace Cert.KernelIdeal.Point
open Cert.KernelIdeal Cert.KernelIdeal.Gen Cert.Rglru

/-- A load after stores that are blocks of `G` and cover the buffer reads `G`. -/
theorem readCov_ld {κ : Kind} {sp : Space} {S : Shape} {e : EltTy} (v : View sig κ sp S e) (G : S.Idx → Elt Ideal e) (L : List (View.Piece (Elt Ideal) S e))
    (hc : ∀ y, ∃ p ∈ L, y ∈ p.1.set) (hL : ∀ y, View.AllAt L y (G y)) (r : Rect S) :
    v.readCov (Val := Elt Ideal) L r.toLoadRect = View.ld G r := by
  rw [View.readCov_eq_canon']
  funext j
  exact View.canon_eq_of_allAt L _ _ (hc _) (hL _)

/-- The decays of a whole point. -/
def decays (i : grid0.Coords) (xc xl : Vec Ideal S32x8x1536 .f32) (Wa Wx : Vec Ideal S4x384x384 .bf16) (βa βx lam : Vec Ideal S1x1536 .f32) : Vec Ideal S32x8x1536 .f32 :=
  fun j => decay i xc xl Wa Wx βa βx lam ⟨(j 2).val / 384, by have h : (j 2).val < 1536 := (j 2).isLt; omega⟩ (j 0) (j 1) ⟨(j 2).val % 384, by omega⟩

/-- The decay at an index of column block `k` is the decay at the block's coordinates. -/
theorem decays_at (i : grid0.Coords) (xc xl : Vec Ideal S32x8x1536 .f32) (Wa Wx : Vec Ideal S4x384x384 .bf16) (βa βx lam : Vec Ideal S1x1536 .f32) (k : Fin 4) (y : S32x8x1536.Idx) (x : S32x8x384.Idx)
    (h0 : (y 0).val = (x 0).val) (h1 : (y 1).val = (x 1).val) (h2 : (y 2).val = 384 * k.val + (x 2).val) :
    decay i xc xl Wa Wx βa βx lam k (x 0) (x 1) (x 2) = decays i xc xl Wa Wx βa βx lam y := by
  have hx : (x 2).val < 384 := (x 2).isLt
  have e0 : (x 0) = (y 0) := Fin.ext h0.symm
  have e1 : (x 1) = (y 1) := Fin.ext h1.symm
  have hk : k = ⟨(y 2).val / 384, by have h : (y 2).val < 1536 := (y 2).isLt; omega⟩ := Fin.ext (by show k.val = (y 2).val / 384; omega)
  have e2 : (x 2) = (⟨(y 2).val % 384, by omega⟩ : Fin 384) := Fin.ext (by show (x 2).val = (y 2).val % 384; omega)
  unfold decays
  rw [← hk, ← e0, ← e1, ← e2]

/-- A load from the scratch of the decays, after the four column blocks are stored, reads the decays. -/
theorem read_decays (i : grid0.Coords) (xc xl : Vec Ideal S32x8x1536 .f32) (Wa Wx : Vec Ideal S4x384x384 .bf16) (βa βx lam : Vec Ideal S1x1536 .f32) (r : Rect S32x8x1536) :
    (View.whole cc0_scratch1).readCov (Val := Elt Ideal) [⟨Rect.unit ![0, 0, 1152] ![32, 8, 384] inb_S32x8x1536_S32x8x384_0_0_1152, k0_pay68 (k0_pay46 lam) (k0_pay65 (k0_pay45 i xc xl)) (View.ld Wa (Rect.unit ![3, 0, 0] ![1, 384, 384] inb_S4x384x384_S1x384x384_3_0_0)) (View.ld βa (Rect.unit ![0, 1152] ![1, 384] inb_S1x1536_S1x384_0_1152))⟩,
      ⟨Rect.unit ![0, 0, 768] ![32, 8, 384] inb_S32x8x1536_S32x8x384_0_0_768, k0_pay63 (k0_pay46 lam) (k0_pay61 (k0_pay45 i xc xl) (View.ld Wa (Rect.unit ![2, 0, 0] ![1, 384, 384] inb_S4x384x384_S1x384x384_2_0_0)) (View.ld βa (Rect.unit ![0, 768] ![1, 384] inb_S1x1536_S1x384_0_768)))⟩,
      ⟨Rect.unit ![0, 0, 384] ![32, 8, 384] inb_S32x8x1536_S32x8x384_0_0_384, k0_pay58 (k0_pay57 (k0_pay45 i xc xl) (k0_pay46 lam) (View.ld Wa (Rect.unit ![1, 0, 0] ![1, 384, 384] inb_S4x384x384_S1x384x384_1_0_0)) (View.ld βa (Rect.unit ![0, 384] ![1, 384] inb_S1x1536_S1x384_0_384)))⟩,
      ⟨Rect.unit ![0, 0, 0] ![32, 8, 384] inb_S32x8x1536_S32x8x384_0_0_0, k0_pay51 (k0_pay46 lam) (k0_pay48 i xc xl (View.ld Wa (Rect.unit ![0, 0, 0] ![1, 384, 384] inb_S4x384x384_S1x384x384_0_0_0)) (View.ld βa (Rect.unit ![0, 0] ![1, 384] inb_S1x1536_S1x384_0_0))) k0_pay49⟩] r.toLoadRect = View.ld (decays i xc xl Wa Wx βa βx lam) r := by
  refine readCov_ld _ _ _ (fun y => View.cover_of_tiled_head _ _ _ rfl y) (fun y => ?_) r
  refine View.allAt_cons_unit _ _ _ _ _ (fun x hx => (congrArg _ (ix3_eta x).symm).trans ((decay_3 i xc xl Wa Wx βa βx lam _ _ _).trans
    (decays_at i xc xl Wa Wx βa βx lam 3 y x ((hx 0).trans (Nat.zero_add _)) ((hx 1).trans (Nat.zero_add _)) (hx 2)))) ?_
  refine View.allAt_cons_unit _ _ _ _ _ (fun x hx => (congrArg _ (ix3_eta x).symm).trans ((decay_2 i xc xl Wa Wx βa βx lam _ _ _).trans
    (decays_at i xc xl Wa Wx βa βx lam 2 y x ((hx 0).trans (Nat.zero_add _)) ((hx 1).trans (Nat.zero_add _)) (hx 2)))) ?_
  refine View.allAt_cons_unit _ _ _ _ _ (fun x hx => (congrArg _ (ix3_eta x).symm).trans ((decay_1 i xc xl Wa Wx βa βx lam _ _ _).trans
    (decays_at i xc xl Wa Wx βa βx lam 1 y x ((hx 0).trans (Nat.zero_add _)) ((hx 1).trans (Nat.zero_add _)) (hx 2)))) ?_
  refine View.allAt_cons_unit _ _ _ _ _ (fun x hx => (congrArg _ (ix3_eta x).symm).trans ((decay_0 i xc xl Wa Wx βa βx lam _ _ _).trans
    (decays_at i xc xl Wa Wx βa βx lam 0 y x ((hx 0).trans (Nat.zero_add _)) ((hx 1).trans (Nat.zero_add _)) (hx 2)))) ?_
  exact View.allAt_nil _ _

/-- The inputs of a whole point. -/
def inputs (i : grid0.Coords) (xc xl : Vec Ideal S32x8x1536 .f32) (Wa Wx : Vec Ideal S4x384x384 .bf16) (βa βx lam : Vec Ideal S1x1536 .f32) : Vec Ideal S32x8x1536 .f32 :=
  fun j => input i xc xl Wa Wx βa βx lam ⟨(j 2).val / 384, by have h : (j 2).val < 1536 := (j 2).isLt; omega⟩ (j 0) (j 1) ⟨(j 2).val % 384, by omega⟩

/-- The input at an index of column block `k` is the input at the block's coordinates. -/
theorem inputs_at (i : grid0.Coords) (xc xl : Vec Ideal S32x8x1536 .f32) (Wa Wx : Vec Ideal S4x384x384 .bf16) (βa βx lam : Vec Ideal S1x1536 .f32) (k : Fin 4) (y : S32x8x1536.Idx) (x : S32x8x384.Idx)
    (h0 : (y 0).val = (x 0).val) (h1 : (y 1).val = (x 1).val) (h2 : (y 2).val = 384 * k.val + (x 2).val) :
    input i xc xl Wa Wx βa βx lam k (x 0) (x 1) (x 2) = inputs i xc xl Wa Wx βa βx lam y := by
  have hx : (x 2).val < 384 := (x 2).isLt
  have e0 : (x 0) = (y 0) := Fin.ext h0.symm
  have e1 : (x 1) = (y 1) := Fin.ext h1.symm
  have hk : k = ⟨(y 2).val / 384, by have h : (y 2).val < 1536 := (y 2).isLt; omega⟩ := Fin.ext (by show k.val = (y 2).val / 384; omega)
  have e2 : (x 2) = (⟨(y 2).val % 384, by omega⟩ : Fin 384) := Fin.ext (by show (x 2).val = (y 2).val % 384; omega)
  unfold inputs
  rw [← hk, ← e0, ← e1, ← e2]

/-- A load from the scratch of the inputs, after the four column blocks are stored, reads the inputs. -/
theorem read_inputs (i : grid0.Coords) (xc xl : Vec Ideal S32x8x1536 .f32) (Wa Wx : Vec Ideal S4x384x384 .bf16) (βa βx lam : Vec Ideal S1x1536 .f32) (r : Rect S32x8x1536) :
    (View.whole cc0_scratch2).readCov (Val := Elt Ideal) [⟨Rect.unit ![0, 0, 1152] ![32, 8, 384] inb_S32x8x1536_S32x8x384_0_0_1152, k0_pay72 (k0_pay44 i xc xl) (k0_pay66 (k0_pay65 (k0_pay45 i xc xl)) (View.ld Wx (Rect.unit ![3, 0, 0] ![1, 384, 384] inb_S4x384x384_S1x384x384_3_0_0)) (View.ld βx (Rect.unit ![0, 1152] ![1, 384] inb_S1x1536_S1x384_0_1152))) (k0_pay70 (k0_pay46 lam) (k0_pay65 (k0_pay45 i xc xl)) (View.ld Wa (Rect.unit ![3, 0, 0] ![1, 384, 384] inb_S4x384x384_S1x384x384_3_0_0)) (View.ld βa (Rect.unit ![0, 1152] ![1, 384] inb_S1x1536_S1x384_0_1152))) (k0_pay71 (k0_pay46 lam) (k0_pay65 (k0_pay45 i xc xl)) (View.ld Wa (Rect.unit ![3, 0, 0] ![1, 384, 384] inb_S4x384x384_S1x384x384_3_0_0)) (View.ld βa (Rect.unit ![0, 1152] ![1, 384] inb_S1x1536_S1x384_0_1152)))⟩,
      ⟨Rect.unit ![0, 0, 768] ![32, 8, 384] inb_S32x8x1536_S32x8x384_0_0_768, k0_pay64 (k0_pay44 i xc xl) (k0_pay46 lam) (k0_pay60 (k0_pay45 i xc xl)) (k0_pay61 (k0_pay45 i xc xl) (View.ld Wa (Rect.unit ![2, 0, 0] ![1, 384, 384] inb_S4x384x384_S1x384x384_2_0_0)) (View.ld βa (Rect.unit ![0, 768] ![1, 384] inb_S1x1536_S1x384_0_768))) (View.ld Wx (Rect.unit ![2, 0, 0] ![1, 384, 384] inb_S4x384x384_S1x384x384_2_0_0)) (View.ld βx (Rect.unit ![0, 768] ![1, 384] inb_S1x1536_S1x384_0_768))⟩,
      ⟨Rect.unit ![0, 0, 384] ![32, 8, 384] inb_S32x8x1536_S32x8x384_0_0_384, k0_pay59 (k0_pay44 i xc xl) (k0_pay55 (k0_pay45 i xc xl) (View.ld Wx (Rect.unit ![1, 0, 0] ![1, 384, 384] inb_S4x384x384_S1x384x384_1_0_0)) (View.ld βx (Rect.unit ![0, 384] ![1, 384] inb_S1x1536_S1x384_0_384))) (k0_pay56 (k0_pay45 i xc xl) (k0_pay46 lam) (View.ld Wa (Rect.unit ![1, 0, 0] ![1, 384, 384] inb_S4x384x384_S1x384x384_1_0_0)) (View.ld βa (Rect.unit ![0, 384] ![1, 384] inb_S1x1536_S1x384_0_384)))⟩,
      ⟨Rect.unit ![0, 0, 0] ![32, 8, 384] inb_S32x8x1536_S32x8x384_0_0_0, k0_pay53 (k0_pay52 (k0_pay44 i xc xl) (k0_pay46 lam) (k0_pay47 i xc xl) (k0_pay48 i xc xl (View.ld Wa (Rect.unit ![0, 0, 0] ![1, 384, 384] inb_S4x384x384_S1x384x384_0_0_0)) (View.ld βa (Rect.unit ![0, 0] ![1, 384] inb_S1x1536_S1x384_0_0))) k0_pay49 (View.ld Wx (Rect.unit ![0, 0, 0] ![1, 384, 384] inb_S4x384x384_S1x384x384_0_0_0)) (View.ld βx (Rect.unit ![0, 0] ![1, 384] inb_S1x1536_S1x384_0_0)))⟩] r.toLoadRect = View.ld (inputs i xc xl Wa Wx βa βx lam) r := by
  refine readCov_ld _ _ _ (fun y => View.cover_of_tiled_head _ _ _ rfl y) (fun y => ?_) r
  refine View.allAt_cons_unit _ _ _ _ _ (fun x hx => (congrArg _ (ix3_eta x).symm).trans ((input_3 i xc xl Wa Wx βa βx lam _ _ _).trans
    (inputs_at i xc xl Wa Wx βa βx lam 3 y x ((hx 0).trans (Nat.zero_add _)) ((hx 1).trans (Nat.zero_add _)) (hx 2)))) ?_
  refine View.allAt_cons_unit _ _ _ _ _ (fun x hx => (congrArg _ (ix3_eta x).symm).trans ((input_2 i xc xl Wa Wx βa βx lam _ _ _).trans
    (inputs_at i xc xl Wa Wx βa βx lam 2 y x ((hx 0).trans (Nat.zero_add _)) ((hx 1).trans (Nat.zero_add _)) (hx 2)))) ?_
  refine View.allAt_cons_unit _ _ _ _ _ (fun x hx => (congrArg _ (ix3_eta x).symm).trans ((input_1 i xc xl Wa Wx βa βx lam _ _ _).trans
    (inputs_at i xc xl Wa Wx βa βx lam 1 y x ((hx 0).trans (Nat.zero_add _)) ((hx 1).trans (Nat.zero_add _)) (hx 2)))) ?_
  refine View.allAt_cons_unit _ _ _ _ _ (fun x hx => (congrArg _ (ix3_eta x).symm).trans ((input_0 i xc xl Wa Wx βa βx lam _ _ _).trans
    (inputs_at i xc xl Wa Wx βa βx lam 0 y x ((hx 0).trans (Nat.zero_add _)) ((hx 1).trans (Nat.zero_add _)) (hx 2)))) ?_
  exact View.allAt_nil _ _

end Cert.KernelIdeal.Point
end
-- ==== Proof.Rows.lean ====
/-
  The row scan of one grid point as the kernel computes it: the running products and local scans over the rows, the states the segments are
  entered with, over the decays `A` and inputs `B` of the point.
-/
module

public import proofs.«01_k».proof.Proof.Gen.KernelIdeal.Launch
public import proofs.«01_k».proof.Proof.Scalar
public import Idealize.ShloMosaic.Lib.Pipeline.ValueKit

@[expose] public section

set_option maxRecDepth 16384
noncomputable section
open Idealize.ShloMosaic Idealize.ShloMosaic.TcCoe Idealize.SL.Sem
namespace Cert.KernelIdeal.Point
open Cert.KernelIdeal Cert.KernelIdeal.Gen Cert.Rglru

/-- Segment `s`, lane `l` of a block along the rows. -/
def col (A : Vec Ideal S32x8x1536 .f32) (s : Fin 8) (l : Fin 1536) : ℕ → EReal :=
  fun q => A (ix3 ⟨q % 32, Nat.mod_lt _ (by decide)⟩ s l)

/-- The running products of the decays after row `q`. -/
def prow (A : Vec Ideal S32x8x1536 .f32) (q : ℕ) : FVec Ideal S8x1536 .f32 := fun j => prods (col A (j 0) (j 1)) q

/-- The local scans after row `q`. -/
def hrow (A B : Vec Ideal S32x8x1536 .f32) (q : ℕ) : FVec Ideal S8x1536 .f32 := fun j => locs (col A (j 0) (j 1)) (col B (j 0) (j 1)) q

/-- The state of a lane before segment `n`, entered with `x`. -/
def seg (A B : Vec Ideal S32x8x1536 .f32) (l : Fin 1536) (x : EReal) : ℕ → EReal
  | 0 => x
  | n + 1 => locs (col A ⟨n % 8, Nat.mod_lt _ (by decide)⟩ l) (col B ⟨n % 8, Nat.mod_lt _ (by decide)⟩ l) 31
      + prods (col A ⟨n % 8, Nat.mod_lt _ (by decide)⟩ l) 31 * seg A B l x n

/-- The states before segment `n`. -/
def srow (A B : Vec Ideal S32x8x1536 .f32) (x : Vec Ideal S1x1536 .f32) (n : ℕ) : FVec Ideal S1x1536 .f32 :=
  fun j => seg A B (j 1) (x (ix2 0 (j 1))) n

/-- Row `q` of a block. -/
def arow (A : Vec Ideal S32x8x1536 .f32) (q : ℕ) : FVec Ideal S8x1536 .f32 := fun j => col A (j 0) (j 1) q

/-- A row loaded from a block. -/
theorem row_eq (A : Vec Ideal S32x8x1536 .f32) (q : ℕ) (inb) (h) (hq : q < 32) :
    shapeCast (s := S1x8x1536) (α := Ideal .f32) S8x1536 (View.ld (Val := Elt Ideal) A (Rect.unit ![q, 0, 0] ![1, 8, 1536] inb)) h = arow A q := by
  funext j
  refine (shapeCast_dropUnit_apply ![8, 1536] _ h j).trans ?_
  refine View.ld_unit_apply_of A _ _ inb _ (ix3 ⟨q % 32, Nat.mod_lt _ (by decide)⟩ (j 0) (j 1)) ?_
  intro a
  match a with
  | ⟨0, _⟩ => exact Nat.mod_eq_of_lt hq
  | ⟨1, _⟩ => exact (Nat.zero_add _).symm
  | ⟨2, _⟩ => exact (Nat.zero_add _).symm

/-- The first row of products. -/
theorem prow_zero (A : Vec Ideal S32x8x1536 .f32) : arow A 0 = prow A 0 := rfl

/-- The first row of scans. -/
theorem hrow_zero (A B : Vec Ideal S32x8x1536 .f32) : arow B 0 = hrow A B 0 := rfl

/-- One more row of products. -/
theorem prow_step (A : Vec Ideal S32x8x1536 .f32) (q q' : ℕ) (h : q' = q + 1) : mulf (arow A q') (prow A q) = prow A q' := by
  subst h; rfl

/-- One more row of scans. -/
theorem hrow_step (A B : Vec Ideal S32x8x1536 .f32) (q q' : ℕ) (h : q' = q + 1) :
    addf (mulf (arow A q') (hrow A B q)) (arow B q') = hrow A B q' := by
  subst h; rfl

/-- The state after the first segment. -/
theorem srow_one (A B : Vec Ideal S32x8x1536 .f32) (x : Vec Ideal S1x1536 .f32) (h h') :
    addf (extractStridedSlice S1x1536 ![0, 0] (hrow A B 31) h) (mulf (extractStridedSlice S1x1536 ![0, 0] (prow A 31) h') x)
      = srow A B x 1 := by
  funext j
  obtain ⟨a, b, rfl⟩ : ∃ (a : Fin 1) (b : Fin 1536), j = ix2 a b := ⟨j 0, j 1, (ix2_eta j).symm⟩
  obtain rfl : a = 0 := Subsingleton.elim _ _
  pointwise [srow, seg, hrow, prow]

/-- The state after one more segment. -/
theorem srow_step (A B : Vec Ideal S32x8x1536 .f32) (x : Vec Ideal S1x1536 .f32) (n : ℕ) (h h') (hn : n < 8) :
    addf (extractStridedSlice S1x1536 ![n, 0] (hrow A B 31) h) (mulf (extractStridedSlice S1x1536 ![n, 0] (prow A 31) h') (srow A B x n))
      = srow A B x (n + 1) := by
  funext j
  obtain ⟨a, b, rfl⟩ : ∃ (a : Fin 1) (b : Fin 1536), j = ix2 a b := ⟨j 0, j 1, (ix2_eta j).symm⟩
  obtain rfl : a = 0 := Subsingleton.elim _ _
  have e8 : (⟨n % 8, Nat.mod_lt _ (by decide)⟩ : Fin 8) = ⟨n, hn⟩ := Fin.ext (Nat.mod_eq_of_lt hn)
  show extractStridedSlice S1x1536 ![n, 0] (hrow A B 31) h (ix2 0 b) + extractStridedSlice S1x1536 ![n, 0] (prow A 31) h' (ix2 0 b) * srow A B x n (ix2 0 b)
    = srow A B x (n + 1) (ix2 0 b)
  have i8 : ∀ (v : FVec Ideal S8x1536 .f32) h, extractStridedSlice S1x1536 ![n, 0] v h (ix2 0 b) = v (ix2 ⟨n, hn⟩ b) := fun v h =>
    congrArg v (Shape.idx_ext₂ (n := ![8, 1536]) (Nat.add_zero n) (Nat.zero_add b.val))
  rw [i8, i8]
  simp only [srow, seg, hrow, prow, e8]
  rfl

/-- The states the segments are entered with. -/
def erow (A B : Vec Ideal S32x8x1536 .f32) (x : Vec Ideal S1x1536 .f32) : FVec Ideal S8x1536 .f32 :=
  fun j => seg A B (j 1) (x (ix2 0 (j 1))) (j 0).val

/-- The rows stored: the local scans moved on from the states the segments are entered with. -/
def orow (A B : Vec Ideal S32x8x1536 .f32) (E : FVec Ideal S8x1536 .f32) (q : ℕ) : FVec Ideal S8x1536 .f32 :=
  addf (hrow A B q) (mulf (prow A q) E)

/-- A stored row, folded. -/
theorem orow_eq (A B : Vec Ideal S32x8x1536 .f32) (E : FVec Ideal S8x1536 .f32) (q : ℕ) :
    addf (hrow A B q) (mulf (prow A q) E) = orow A B E q := rfl

/-- The stored rows as one block. -/
def oblk (A B : Vec Ideal S32x8x1536 .f32) (E : FVec Ideal S8x1536 .f32) : Vec Ideal S32x8x1536 .f32 :=
  fun j => orow A B E (j 0).val (ix2 (j 1) (j 2))

/-- A stored row read inside its piece. -/
theorem piece_at (A B : Vec Ideal S32x8x1536 .f32) (E : FVec Ideal S8x1536 .f32) (q : ℕ) (h) (y : S32x8x1536.Idx) (x : S1x8x1536.Idx)
    (hx : ∀ a, (y a).val = (![q, 0, 0] : Fin 3 → ℕ) a + (x a).val) :
    shapeCast (α := Ideal .f32) S1x8x1536 (orow A B E q) h x = oblk A B E y := by
  refine (shapeCast_addUnit_apply ![8, 1536] _ h x).trans ?_
  have h0 : (x 0).val = 0 := by have h : (x 0).val < 1 := (x 0).isLt; omega
  have e0 : (y 0).val = q := (hx 0).trans (by rw [h0]; rfl)
  have e1 : x 1 = y 1 := Fin.ext ((hx 1).trans (Nat.zero_add _)).symm
  have e2 : x 2 = y 2 := Fin.ext ((hx 2).trans (Nat.zero_add _)).symm
  unfold oblk
  rw [e0, ← e1, ← e2]
  exact congrArg _ (ix2_eta _).symm

/-- A selection of a broadcast row at a segment. -/
theorem pick (n : ℕ) (hn : n < 8) (v : FVec Ideal S1x1536 .f32) (w : FVec Ideal S8x1536 .f32) (hi hb a b) :
    select (cmpi .eq (iota .tc S8x1536 32 [0] hi) (broadcast S8x1536 (BitVec.ofNat 32 n))) (broadcastTo S8x1536 v hb) w (ix2 a b)
      = if a.val = n then v (ix2 0 b) else w (ix2 a b) := by
  have h1 : iota .tc S8x1536 32 [0] hi (ix2 a b) = BitVec.ofNat 32 a.val := iota_single_apply _ _ _ _ hi _
  show Scalar.select (Scalar.cmpi .eq (iota .tc S8x1536 32 [0] hi (ix2 a b)) (BitVec.ofNat 32 n)) (broadcastTo S8x1536 v hb (ix2 a b)) (w (ix2 a b)) = _
  rw [h1]
  have h2 : broadcastTo S8x1536 v hb (ix2 a b) = v (ix2 0 b) := by
    pointwise []
  rw [h2]
  have ha := a.isLt
  by_cases e : a.val = n
  · rw [if_pos e, e]; simp [Scalar.select, Scalar.cmpi, IntOp.cmpi]
  · rw [if_neg e]
    have : ¬ BitVec.ofNat 32 a.val = BitVec.ofNat 32 n := by
      intro h; apply e
      have := congrArg BitVec.toNat h
      simp only [BitVec.toNat_ofNat] at this
      omega
    rw [Scalar.select, Scalar.cmpi, IntOp.cmpi]
    show (if BitVec.ofBool (BitVec.ofNat 32 a.val == BitVec.ofNat 32 n) = 1#1 then _ else _) = _
    rw [beq_false_of_ne this]
    rfl

/-- The selections of the eight segments' states together. -/
theorem erow_eq (A B : Vec Ideal S32x8x1536 .f32) (x : FVec Ideal S1x1536 .f32) (z : FVec Ideal S8x1536 .f32) (I : IVec S8x1536 32) (hb) (hi) (hI : I = iota .tc S8x1536 32 [0] hi) :

      (select (cmpi .eq I (broadcast S8x1536 7#32)) (broadcastTo S8x1536 (srow A B x 7) hb)
      (select (cmpi .eq I (broadcast S8x1536 6#32)) (broadcastTo S8x1536 (srow A B x 6) hb)
      (select (cmpi .eq I (broadcast S8x1536 5#32)) (broadcastTo S8x1536 (srow A B x 5) hb)
      (select (cmpi .eq I (broadcast S8x1536 4#32)) (broadcastTo S8x1536 (srow A B x 4) hb)
      (select (cmpi .eq I (broadcast S8x1536 3#32)) (broadcastTo S8x1536 (srow A B x 3) hb)
      (select (cmpi .eq I (broadcast S8x1536 2#32)) (broadcastTo S8x1536 (srow A B x 2) hb)
      (select (cmpi .eq I (broadcast S8x1536 1#32)) (broadcastTo S8x1536 (srow A B x 1) hb)
      (select (cmpi .eq I (broadcast S8x1536 0#32)) (broadcastTo S8x1536 x hb) z))))))))
      = erow A B x := by
  subst hI
  funext j
  obtain ⟨a, b, rfl⟩ : ∃ (a : Fin 8) (b : Fin 1536), j = ix2 a b := ⟨j 0, j 1, (ix2_eta j).symm⟩
  rw [pick 7 (by decide)]
  rw [pick 6 (by decide)]
  rw [pick 5 (by decide)]
  rw [pick 4 (by decide)]
  rw [pick 3 (by decide)]
  rw [pick 2 (by decide)]
  rw [pick 1 (by decide)]
  rw [pick 0 (by decide)]
  match a with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl

end Cert.KernelIdeal.Point
end
-- ==== Proof.Point.lean ====
/-
  What one grid point of the recurrence leaves: the carried states and the stored rows, over the decays and inputs of the point.
-/
module

public import proofs.«01_k».proof.Proof.Gen.KernelIdeal.Frame
public import proofs.«01_k».proof.Proof.Coef2
public import proofs.«01_k».proof.Proof.Rows
public import Idealize.ShloMosaic.Lib.Pipeline.ValueKit
public import Idealize.ShloMosaic.Lib.Pipeline.ReadBack

@[expose] public section

set_option maxRecDepth 16384
noncomputable section
open Idealize.ShloMosaic Idealize.ShloMosaic.TcCoe Idealize.SL.Sem
namespace Cert.KernelIdeal.Point
open Cert.KernelIdeal Cert.KernelIdeal.Gen
variable (m : (ℓ : Loc nD τ sig) → Buf (Elt Ideal) ℓ)

set_option maxHeartbeats 4000000 in
/-- The states carried after a later point of a sequence. -/
theorem carry_B (c : Dev nD) (t : Fin cfg0.N) (h0 : ¬t.val % 9 = 0) (h1 : 1 ≤ t.val % 9) :
    (outsAt0 m c t.val t.isLt).2 = srow (decays (grid0.coords t) (iblk m c 1 t) (iblk m c 0 t) (iblk m c 2 t) (iblk m c 3 t) (iblk m c 4 t) (iblk m c 5 t) (iblk m c 6 t)) (inputs (grid0.coords t) (iblk m c 1 t) (iblk m c 0 t) (iblk m c 2 t) (iblk m c 3 t) (iblk m c 4 t) (iblk m c 5 t) (iblk m c 6 t)) (outsAt0 m c (t.val - 1) (Nat.lt_of_le_of_lt (Nat.sub_le _ _) t.isLt)).2 8 := by
  rw [outsAt0_B m c t h0 h1]
  dsimp only
  frame_open
  simp (disch := decide) only [↓ View.readCov_skip, ↓ View.readCov_cons_toLoadRect, ↓ View.readCov_fill]
  frame_out
  simp only [read_decays (grid0.coords t) (iblk m c 1 t) (iblk m c 0 t) (iblk m c 2 t) (iblk m c 3 t) (iblk m c 4 t) (iblk m c 5 t) (iblk m c 6 t), read_inputs (grid0.coords t) (iblk m c 1 t) (iblk m c 0 t) (iblk m c 2 t) (iblk m c 3 t) (iblk m c 4 t) (iblk m c 5 t) (iblk m c 6 t)]
  generalize decays (grid0.coords t) (iblk m c 1 t) (iblk m c 0 t) (iblk m c 2 t) (iblk m c 3 t) (iblk m c 4 t) (iblk m c 5 t) (iblk m c 6 t) = A
  generalize inputs (grid0.coords t) (iblk m c 1 t) (iblk m c 0 t) (iblk m c 2 t) (iblk m c 3 t) (iblk m c 4 t) (iblk m c 5 t) (iblk m c 6 t) = B
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245]
  simp (disch := decide) only [shapeCast_shapeCast, row_eq, shapeCast_self, read_unread_whole]
  rw [prow_zero A, hrow_zero A B]
  simp (disch := decide) only [prow_step, hrow_step]
  simp (disch := decide) only [srow_one, srow_step, Nat.reduceAdd]

set_option maxHeartbeats 4000000 in
/-- The rows stored at a later point of a sequence. -/
theorem out_B (c : Dev nD) (t : Fin cfg0.N) (h0 : ¬t.val % 9 = 0) (h1 : 1 ≤ t.val % 9) :
    (outsAt0 m c t.val t.isLt).1 = oblk (decays (grid0.coords t) (iblk m c 1 t) (iblk m c 0 t) (iblk m c 2 t) (iblk m c 3 t) (iblk m c 4 t) (iblk m c 5 t) (iblk m c 6 t)) (inputs (grid0.coords t) (iblk m c 1 t) (iblk m c 0 t) (iblk m c 2 t) (iblk m c 3 t) (iblk m c 4 t) (iblk m c 5 t) (iblk m c 6 t)) (erow (decays (grid0.coords t) (iblk m c 1 t) (iblk m c 0 t) (iblk m c 2 t) (iblk m c 3 t) (iblk m c 4 t) (iblk m c 5 t) (iblk m c 6 t)) (inputs (grid0.coords t) (iblk m c 1 t) (iblk m c 0 t) (iblk m c 2 t) (iblk m c 3 t) (iblk m c 4 t) (iblk m c 5 t) (iblk m c 6 t)) (outsAt0 m c (t.val - 1) (Nat.lt_of_le_of_lt (Nat.sub_le _ _) t.isLt)).2) := by
  rw [outsAt0_B m c t h0 h1]
  dsimp only
  frame_open
  simp (disch := decide) only [↓ View.readCov_skip, ↓ View.readCov_cons_toLoadRect, ↓ View.readCov_fill]
  frame_out
  simp only [read_decays (grid0.coords t) (iblk m c 1 t) (iblk m c 0 t) (iblk m c 2 t) (iblk m c 3 t) (iblk m c 4 t) (iblk m c 5 t) (iblk m c 6 t), read_inputs (grid0.coords t) (iblk m c 1 t) (iblk m c 0 t) (iblk m c 2 t) (iblk m c 3 t) (iblk m c 4 t) (iblk m c 5 t) (iblk m c 6 t)]
  generalize decays (grid0.coords t) (iblk m c 1 t) (iblk m c 0 t) (iblk m c 2 t) (iblk m c 3 t) (iblk m c 4 t) (iblk m c 5 t) (iblk m c 6 t) = A
  generalize inputs (grid0.coords t) (iblk m c 1 t) (iblk m c 0 t) (iblk m c 2 t) (iblk m c 3 t) (iblk m c 4 t) (iblk m c 5 t) (iblk m c 6 t) = B
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245]
  simp (disch := decide) only [shapeCast_shapeCast, row_eq, shapeCast_self, read_unread_whole]
  rw [prow_zero A, hrow_zero A B]
  simp (disch := decide) only [prow_step, hrow_step]
  simp (disch := decide) only [srow_one, srow_step, Nat.reduceAdd]
  simp (disch := first | exact iota_S8x1536_d0_w32 | rfl) only [erow_eq, orow_eq]
  funext y
  refine View.canon_eq_of_allAt _ y _ (View.cover_of_tiled_head _ _ _ rfl y) ?_
  iterate 32 refine View.allAt_cons_unit _ _ _ _ _ (fun x hx => piece_at _ _ _ _ _ _ _ hx) ?_
  exact View.allAt_nil _ _

set_option maxHeartbeats 4000000 in
/-- The states carried after the first point of a sequence. -/
theorem carry_A (c : Dev nD) (t : Fin cfg0.N) (h0 : t.val % 9 = 0) (h1 : ¬1 ≤ t.val % 9) :
    (outsAt0 m c t.val t.isLt).2 = srow (decays (grid0.coords t) (iblk m c 1 t) (iblk m c 0 t) (iblk m c 2 t) (iblk m c 3 t) (iblk m c 4 t) (iblk m c 5 t) (iblk m c 6 t)) (inputs (grid0.coords t) (iblk m c 1 t) (iblk m c 0 t) (iblk m c 2 t) (iblk m c 3 t) (iblk m c 4 t) (iblk m c 5 t) (iblk m c 6 t)) (fun _ => (0 : EReal)) 8 := by
  rw [outsAt0_A m c t h0 h1]
  dsimp only
  frame_open
  simp (disch := decide) only [↓ View.readCov_skip, ↓ View.readCov_cons_toLoadRect, ↓ View.readCov_fill]
  frame_out
  simp only [read_decays (grid0.coords t) (iblk m c 1 t) (iblk m c 0 t) (iblk m c 2 t) (iblk m c 3 t) (iblk m c 4 t) (iblk m c 5 t) (iblk m c 6 t), read_inputs (grid0.coords t) (iblk m c 1 t) (iblk m c 0 t) (iblk m c 2 t) (iblk m c 3 t) (iblk m c 4 t) (iblk m c 5 t) (iblk m c 6 t)]
  generalize decays (grid0.coords t) (iblk m c 1 t) (iblk m c 0 t) (iblk m c 2 t) (iblk m c 3 t) (iblk m c 4 t) (iblk m c 5 t) (iblk m c 6 t) = A
  generalize inputs (grid0.coords t) (iblk m c 1 t) (iblk m c 0 t) (iblk m c 2 t) (iblk m c 3 t) (iblk m c 4 t) (iblk m c 5 t) (iblk m c 6 t) = B
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245]
  simp (disch := decide) only [shapeCast_shapeCast, row_eq, shapeCast_self, read_unread_whole]
  rw [prow_zero A, hrow_zero A B]
  simp (disch := decide) only [prow_step, hrow_step]
  simp (disch := decide) only [srow_one, srow_step, Nat.reduceAdd]
  exact congrArg (fun x => srow A B x 8) (funext fun _ => Ideal.ofBits_zero_f32)

end Cert.KernelIdeal.Point
end
-- ==== Proof.Entry.lean ====
/-
  The padded operands of the recurrence's kernel, read at an index of the arguments.
-/
module

public import proofs.«01_k».proof.Proof.Gen.KernelIdeal.Frame
public import Idealize.ShloMosaic.Lib.Pipeline.ValueKit
public import Idealize.ShloMosaic.Lib.Claim

@[expose] public section

set_option maxRecDepth 16384
noncomputable section
open Idealize.ShloMosaic Idealize.ShloMosaic.TcCoe Idealize.SL.Sem
namespace Cert.KernelIdeal.Point
open Cert.KernelIdeal Cert.KernelIdeal.Gen
variable (m : (ℓ : Loc nD τ sig) → Buf (Elt Ideal) ℓ)

/-- The padding value is zero. -/
theorem c_pad : (FloatOps.sitofp FTy.f32 0#32 : Ideal .f32) = (0 : EReal) := by
  show (((0#32 : BitVec 32).toInt : ℝ) : EReal) = 0
  simp

/-- The padded latent tokens. -/
theorem v_lat (c : Dev nD) (p : Fin 128) (q : Fin 64) (k : Fin 16) (l : Fin 384) :
    (V m c main_v3 : S128x64x6144.Idx → Ideal .f32) (ix3 p q ⟨384 * k.val + l.val, by omega⟩)
      = if h : l.val < 336 then (show S4x2048x5376.Idx → EReal from m ((c : Thread nD τ).loc main_arg0)) (ix3 ⟨p.val / 32, by omega⟩ ⟨p.val % 32 * 64 + q.val, by omega⟩ ⟨k.val * 336 + l.val, by omega⟩) else (0 : EReal) := by
  obtain ⟨R, hR⟩ : ∃ R : EReal, R = (if h : l.val < 336 then (show S4x2048x5376.Idx → EReal from m ((c : Thread nD τ).loc main_arg0)) (ix3 ⟨p.val / 32, by omega⟩ ⟨p.val % 32 * 64 + q.val, by omega⟩ ⟨k.val * 336 + l.val, by omega⟩) else (0 : EReal)) := ⟨_, rfl⟩
  rw [← hR]
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_results
  simp only [StableHlo.TRef.toBuf, StableHlo.TRef.ofBuf, cast_eq]
  pointwise []
  rw [hR]
  clear hR
  have h1 : p.val / 32 < 4 := by omega
  have h2 : p.val % 32 * 64 + q.val < 2048 := by omega
  by_cases h : l.val < 336
  · refine (dif_pos ⟨h1, h2, h⟩).trans ?_
    refine Eq.trans ?_ (dif_pos h).symm
    rfl
  · refine (dif_neg (fun g => h g.2.2)).trans ?_
    refine Eq.trans ?_ (dif_neg h).symm
    rw [c_pad]

/-- The padded context tokens. -/
theorem v_ctx (c : Dev nD) (p : Fin 128) (q : Fin 8) (k : Fin 16) (l : Fin 384) :
    (V m c main_v9 : S128x8x6144.Idx → Ideal .f32) (ix3 p q ⟨384 * k.val + l.val, by omega⟩)
      = if h : l.val < 336 then (show S4x256x5376.Idx → EReal from m ((c : Thread nD τ).loc main_arg1)) (ix3 ⟨p.val / 32, by omega⟩ ⟨q.val * 32 + p.val % 32, by omega⟩ ⟨k.val * 336 + l.val, by omega⟩) else (0 : EReal) := by
  obtain ⟨R, hR⟩ : ∃ R : EReal, R = (if h : l.val < 336 then (show S4x256x5376.Idx → EReal from m ((c : Thread nD τ).loc main_arg1)) (ix3 ⟨p.val / 32, by omega⟩ ⟨q.val * 32 + p.val % 32, by omega⟩ ⟨k.val * 336 + l.val, by omega⟩) else (0 : EReal)) := ⟨_, rfl⟩
  rw [← hR]
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_results
  simp only [StableHlo.TRef.toBuf, StableHlo.TRef.ofBuf, cast_eq]
  pointwise []
  rw [hR]
  clear hR
  have h1 : p.val / 32 < 4 := by omega
  have h2 : q.val * 32 + p.val % 32 < 256 := by omega
  by_cases h : l.val < 336
  · refine (dif_pos ⟨h1, h2, h⟩).trans ?_
    refine Eq.trans ?_ (dif_pos h).symm
    rfl
  · refine (dif_neg (fun g => h g.2.2)).trans ?_
    refine Eq.trans ?_ (dif_neg h).symm
    rw [c_pad]

/-- The padded weights of the decay gate's blocks. -/
theorem v_wa (c : Dev nD) (k : Fin 16) (q l : Fin 384) :
    (V m c main_v11 : S16x384x384.Idx → Ideal .bf16) (ix3 k q l)
      = if h : q.val < 336 ∧ l.val < 336 then (show S16x336x336.Idx → EReal from m ((c : Thread nD τ).loc main_arg2)) (ix3 k ⟨q.val, h.1⟩ ⟨l.val, h.2⟩) else (0 : EReal) := by
  obtain ⟨R, hR⟩ : ∃ R : EReal, R = (if h : q.val < 336 ∧ l.val < 336 then (show S16x336x336.Idx → EReal from m ((c : Thread nD τ).loc main_arg2)) (ix3 k ⟨q.val, h.1⟩ ⟨l.val, h.2⟩) else (0 : EReal)) := ⟨_, rfl⟩
  rw [← hR]
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_results
  simp only [StableHlo.TRef.toBuf, StableHlo.TRef.ofBuf, cast_eq]
  pointwise []
  rw [hR]
  clear hR
  by_cases h : q.val < 336 ∧ l.val < 336
  · refine (dif_pos h).trans ?_
    refine Eq.trans ?_ (dif_pos h).symm
    rfl
  · refine (dif_neg h).trans ?_
    refine Eq.trans ?_ (dif_neg h).symm
    rw [c_pad]

/-- The padded weights of the input gate's blocks. -/
theorem v_wx (c : Dev nD) (k : Fin 16) (q l : Fin 384) :
    (V m c main_v13 : S16x384x384.Idx → Ideal .bf16) (ix3 k q l)
      = if h : q.val < 336 ∧ l.val < 336 then (show S16x336x336.Idx → EReal from m ((c : Thread nD τ).loc main_arg4)) (ix3 k ⟨q.val, h.1⟩ ⟨l.val, h.2⟩) else (0 : EReal) := by
  obtain ⟨R, hR⟩ : ∃ R : EReal, R = (if h : q.val < 336 ∧ l.val < 336 then (show S16x336x336.Idx → EReal from m ((c : Thread nD τ).loc main_arg4)) (ix3 k ⟨q.val, h.1⟩ ⟨l.val, h.2⟩) else (0 : EReal)) := ⟨_, rfl⟩
  rw [← hR]
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_results
  simp only [StableHlo.TRef.toBuf, StableHlo.TRef.ofBuf, cast_eq]
  pointwise []
  rw [hR]
  clear hR
  by_cases h : q.val < 336 ∧ l.val < 336
  · refine (dif_pos h).trans ?_
    refine Eq.trans ?_ (dif_pos h).symm
    rfl
  · refine (dif_neg h).trans ?_
    refine Eq.trans ?_ (dif_neg h).symm
    rw [c_pad]

/-- The padded bias of the decay gate. -/
theorem v_ba (c : Dev nD) (k : Fin 16) (l : Fin 384) :
    (V m c main_v17 : S1x6144.Idx → Ideal .f32) (ix2 0 ⟨384 * k.val + l.val, by omega⟩)
      = if h : l.val < 336 then (show S5376.Idx → EReal from m ((c : Thread nD τ).loc main_arg3)) (ix1 ⟨k.val * 336 + l.val, by omega⟩) else (0 : EReal) := by
  obtain ⟨R, hR⟩ : ∃ R : EReal, R = (if h : l.val < 336 then (show S5376.Idx → EReal from m ((c : Thread nD τ).loc main_arg3)) (ix1 ⟨k.val * 336 + l.val, by omega⟩) else (0 : EReal)) := ⟨_, rfl⟩
  rw [← hR]
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_results
  simp only [StableHlo.TRef.toBuf, StableHlo.TRef.ofBuf, cast_eq]
  pointwise []
  rw [hR]
  clear hR
  by_cases h : l.val < 336
  · refine (dif_pos h).trans ?_
    refine Eq.trans ?_ (dif_pos h).symm
    rfl
  · refine (dif_neg h).trans ?_
    refine Eq.trans ?_ (dif_neg h).symm
    rw [c_pad]

/-- The padded bias of the input gate. -/
theorem v_bx (c : Dev nD) (k : Fin 16) (l : Fin 384) :
    (V m c main_v21 : S1x6144.Idx → Ideal .f32) (ix2 0 ⟨384 * k.val + l.val, by omega⟩)
      = if h : l.val < 336 then (show S5376.Idx → EReal from m ((c : Thread nD τ).loc main_arg5)) (ix1 ⟨k.val * 336 + l.val, by omega⟩) else (0 : EReal) := by
  obtain ⟨R, hR⟩ : ∃ R : EReal, R = (if h : l.val < 336 then (show S5376.Idx → EReal from m ((c : Thread nD τ).loc main_arg5)) (ix1 ⟨k.val * 336 + l.val, by omega⟩) else (0 : EReal)) := ⟨_, rfl⟩
  rw [← hR]
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_results
  simp only [StableHlo.TRef.toBuf, StableHlo.TRef.ofBuf, cast_eq]
  pointwise []
  rw [hR]
  clear hR
  by_cases h : l.val < 336
  · refine (dif_pos h).trans ?_
    refine Eq.trans ?_ (dif_pos h).symm
    rfl
  · refine (dif_neg h).trans ?_
    refine Eq.trans ?_ (dif_neg h).symm
    rw [c_pad]

/-- The padded decay parameter. -/
theorem v_lam (c : Dev nD) (k : Fin 16) (l : Fin 384) :
    (V m c main_v25 : S1x6144.Idx → Ideal .f32) (ix2 0 ⟨384 * k.val + l.val, by omega⟩)
      = if h : l.val < 336 then (show S5376.Idx → EReal from m ((c : Thread nD τ).loc main_arg6)) (ix1 ⟨k.val * 336 + l.val, by omega⟩) else (0 : EReal) := by
  obtain ⟨R, hR⟩ : ∃ R : EReal, R = (if h : l.val < 336 then (show S5376.Idx → EReal from m ((c : Thread nD τ).loc main_arg6)) (ix1 ⟨k.val * 336 + l.val, by omega⟩) else (0 : EReal)) := ⟨_, rfl⟩
  rw [← hR]
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_results
  simp only [StableHlo.TRef.toBuf, StableHlo.TRef.ofBuf, cast_eq]
  pointwise []
  rw [hR]
  clear hR
  by_cases h : l.val < 336
  · refine (dif_pos h).trans ?_
    refine Eq.trans ?_ (dif_pos h).symm
    rfl
  · refine (dif_neg h).trans ?_
    refine Eq.trans ?_ (dif_neg h).symm
    rw [c_pad]

end Cert.KernelIdeal.Point
end
-- ==== Proof.Spec.lean ====
/-
  The recurrence of the layer over plain arrays: its coefficients, its scan, and the same with the blocks of channels padded from 336 to 384
  lanes, which the kernel runs on.
-/
module

public import proofs.«01_k».proof.Proof.Scalar
public import Idealize.ShloMosaic.Lib.Pipeline.ValueKit

@[expose] public section

set_option maxRecDepth 16384
noncomputable section
open Idealize.ShloMosaic
namespace Cert.Rglru

/-- The arguments of the recurrence as functions of their coordinates. -/
structure Args where
  /-- the latent tokens -/
  xl : Fin 4 → Fin 2048 → Fin 5376 → EReal
  /-- the context tokens -/
  xc : Fin 4 → Fin 256 → Fin 5376 → EReal
  /-- the decay gate's weights -/
  wa : Fin 16 → Fin 336 → Fin 336 → EReal
  /-- the decay gate's bias -/
  ba : Fin 5376 → EReal
  /-- the input gate's weights -/
  wx : Fin 16 → Fin 336 → Fin 336 → EReal
  /-- the input gate's bias -/
  bx : Fin 5376 → EReal
  /-- the decay parameter -/
  lam : Fin 5376 → EReal

/-- Channel `l` of block `k`. -/
abbrev chan (k : Fin 16) (l : Fin 336) : Fin 5376 := ⟨k.val * 336 + l.val, by omega⟩

/-- Token `n` of a sequence: the context, then the latent grid column by column. -/
def tok (G : Args) (b : Fin 4) (n : ℕ) (w : Fin 5376) : EReal :=
  if h : n < 256 then G.xc b ⟨n, h⟩ w else G.xl b ⟨(n - 256) % 32 * 64 + (n - 256) / 32 % 64, by omega⟩ w

/-- A gate's linear map of a token. -/
def glin (G : Args) (W : Fin 16 → Fin 336 → Fin 336 → EReal) (β : Fin 5376 → EReal) (b : Fin 4) (n : ℕ) (k : Fin 16) (l : Fin 336) : EReal :=
  (∑ q : Fin 336, tok G b n (chan k q) * W k q l) + β (chan k l)

/-- The decay of a channel at token `n`. -/
def da (G : Args) (b : Fin 4) (k : Fin 16) (l : Fin 336) (n : ℕ) : EReal :=
  Ideal.exp (logA (G.lam (chan k l)) (glin G G.wa G.ba b n k l))

/-- The input of a channel at token `n`. -/
def db (G : Args) (b : Fin 4) (k : Fin 16) (l : Fin 336) (n : ℕ) : EReal :=
  root (logA (G.lam (chan k l)) (glin G G.wa G.ba b n k l)) * (sigm (glin G G.wx G.bx b n k l) * tok G b n (chan k l))

/-- A lane of a padded token. -/
def ptok (G : Args) (b : Fin 4) (n : ℕ) (k : Fin 16) (q : Fin 384) : EReal :=
  if h : q.val < 336 then tok G b n (chan k ⟨q.val, h⟩) else 0

/-- A padded block of weights. -/
def pmat (W : Fin 16 → Fin 336 → Fin 336 → EReal) (k : Fin 16) (q l : Fin 384) : EReal :=
  if h : q.val < 336 ∧ l.val < 336 then W k ⟨q.val, h.1⟩ ⟨l.val, h.2⟩ else 0

/-- A padded row. -/
def prw (β : Fin 5376 → EReal) (k : Fin 16) (l : Fin 384) : EReal :=
  if h : l.val < 336 then β (chan k ⟨l.val, h⟩) else 0

/-- A gate's linear map of a padded token. -/
def plin (G : Args) (W : Fin 16 → Fin 336 → Fin 336 → EReal) (β : Fin 5376 → EReal) (b : Fin 4) (n : ℕ) (k : Fin 16) (l : Fin 384) : EReal :=
  (∑ q : Fin 384, ptok G b n k q * pmat W k q l) + prw β k l

/-- The decay of a padded lane. -/
def pa (G : Args) (b : Fin 4) (k : Fin 16) (l : Fin 384) (n : ℕ) : EReal :=
  Ideal.exp (logA (prw G.lam k l) (plin G G.wa G.ba b n k l))

/-- The input of a padded lane. -/
def pb (G : Args) (b : Fin 4) (k : Fin 16) (l : Fin 384) (n : ℕ) : EReal :=
  root (logA (prw G.lam k l) (plin G G.wa G.ba b n k l)) * (sigm (plin G G.wx G.bx b n k l) * ptok G b n k l)

/-- A sum over 384 terms that vanish from 336 on is the sum of the first 336. -/
theorem sum_pad (f : Fin 384 → EReal) (h : ∀ q : Fin 384, 336 ≤ q.val → f q = 0) :
    ∑ q : Fin 384, f q = ∑ q : Fin 336, f ⟨q.val, by omega⟩ := by
  rw [show (∑ q : Fin 384, f q) = ∑ q : Fin (336 + 48), f q from rfl, Fin.sum_univ_add]
  rw [show (∑ i : Fin 48, f (Fin.natAdd 336 i)) = 0 from Finset.sum_eq_zero fun i _ => h _ (Nat.le_add_right _ _), add_zero]
  rfl

/-- On a lane that is a channel the padded linear map is the linear map. -/
theorem plin_eq (G : Args) (W : Fin 16 → Fin 336 → Fin 336 → EReal) (β : Fin 5376 → EReal) (b : Fin 4) (n : ℕ) (k : Fin 16) (l : Fin 336) :
    plin G W β b n k ⟨l.val, by omega⟩ = glin G W β b n k l := by
  unfold plin glin
  rw [sum_pad _ (fun q hq => by rw [ptok, dif_neg (by omega), zero_mul])]
  congr 1
  · refine Finset.sum_congr rfl fun q _ => ?_
    rw [ptok, dif_pos q.isLt, pmat, dif_pos ⟨q.isLt, l.isLt⟩]
  · rw [prw, dif_pos l.isLt]

/-- On a lane that is a channel the padded decay is the decay. -/
theorem pa_eq (G : Args) (b : Fin 4) (k : Fin 16) (l : Fin 336) (n : ℕ) : pa G b k ⟨l.val, by omega⟩ n = da G b k l n := by
  rw [pa, da, plin_eq, prw, dif_pos l.isLt]

/-- On a lane that is a channel the padded input is the input. -/
theorem pb_eq (G : Args) (b : Fin 4) (k : Fin 16) (l : Fin 336) (n : ℕ) : pb G b k ⟨l.val, by omega⟩ n = db G b k l n := by
  rw [pb, db, plin_eq, plin_eq, prw, dif_pos l.isLt, ptok, dif_pos l.isLt]

/-- On a lane that is padding the input is zero. -/
theorem pb_pad (G : Args) (b : Fin 4) (k : Fin 16) (l : Fin 384) (hl : ¬ l.val < 336) (n : ℕ) : pb G b k l n = 0 := by
  rw [pb, ptok, dif_neg hl, mul_zero, mul_zero]

/-- A decay is nonnegative and finite. -/
theorem pa_ok (G : Args) (b : Fin 4) (k : Fin 16) (l : Fin 384) (n : ℕ) : 0 ≤ pa G b k l n ∧ pa G b k l n ≠ ⊤ := by
  obtain ⟨r, hr, he⟩ := exp_real (logA_nonpos (prw G.lam k l) (plin G G.wa G.ba b n k l))
  rw [pa, he]
  exact ⟨EReal.coe_nonneg.mpr hr, EReal.coe_ne_top r⟩

/-- The returned array: the state after the latent token, on the channels; zero on the padding. -/
def result (G : Args) (p : Fin 128) (q : Fin 64) (k : Fin 16) (l : Fin 384) : EReal :=
  if h : l.val < 336 then
    scan (da G ⟨p.val / 32, by omega⟩ k ⟨l.val, h⟩) (db G ⟨p.val / 32, by omega⟩ k ⟨l.val, h⟩) 0 (256 + 32 * q.val + p.val % 32 + 1)
  else 0

/-- The padded scan is the returned array. -/
theorem result_eq (G : Args) (p : Fin 128) (q : Fin 64) (k : Fin 16) (l : Fin 384) :
    scan (pa G ⟨p.val / 32, by omega⟩ k l) (pb G ⟨p.val / 32, by omega⟩ k l) 0 (256 + 32 * q.val + p.val % 32 + 1) = result G p q k l := by
  unfold result
  by_cases h : l.val < 336
  · rw [dif_pos h]
    exact scan_congr 0 _ (fun i _ => pa_eq G _ k ⟨l.val, h⟩ i) (fun i _ => pb_eq G _ k ⟨l.val, h⟩ i)
  · rw [dif_neg h]
    exact scan_zero _ _ (pb_pad G _ k l h) _

end Cert.Rglru
end
-- ==== Proof.Chain.lean ====
/-
  From the rows and segments of one grid point to the scan over the whole sequence.
-/
module

public import proofs.«01_k».proof.Proof.Rows
public import proofs.«01_k».proof.Proof.Spec

@[expose] public section

set_option maxRecDepth 16384
noncomputable section
open Idealize.ShloMosaic Idealize.ShloMosaic.TcCoe Idealize.SL.Sem
namespace Cert.KernelIdeal.Point
open Cert.KernelIdeal Cert.KernelIdeal.Gen Cert.Rglru

/-- Running products depend only on the decays met so far. -/
theorem prods_congr {a a' : ℕ → EReal} : ∀ n, (∀ i, i ≤ n → a i = a' i) → prods a n = prods a' n
  | 0, h => h 0 le_rfl
  | n + 1, h => by
    show a (n + 1) * prods a n = a' (n + 1) * prods a' n
    rw [h (n + 1) le_rfl, prods_congr n fun i hi => h i (Nat.le_succ_of_le hi)]

/-- Local scans depend only on the coefficients met so far. -/
theorem locs_congr {a b a' b' : ℕ → EReal} : ∀ n, (∀ i, i ≤ n → a i = a' i) → (∀ i, i ≤ n → b i = b' i) → locs a b n = locs a' b' n
  | 0, _, h => h 0 le_rfl
  | n + 1, h, h' => by
    show a (n + 1) * locs a b n + b (n + 1) = a' (n + 1) * locs a' b' n + b' (n + 1)
    rw [h (n + 1) le_rfl, h' (n + 1) le_rfl, locs_congr n (fun i hi => h i (Nat.le_succ_of_le hi)) fun i hi => h' i (Nat.le_succ_of_le hi)]

variable (A B : Vec Ideal S32x8x1536 .f32) (l : Fin 1536) (a b : ℕ → EReal) (base : ℕ)

/-- A row of a segment, moved on from the state of the sequence before the segment, is the state of the sequence after the row. -/
theorem row_scan (ha : ∀ n, 0 ≤ a n ∧ a n ≠ ⊤) (hA : ∀ (s : Fin 8) (r : ℕ), r < 32 → col A s l r = a (base + 32 * s.val + r))
    (hB : ∀ (s : Fin 8) (r : ℕ), r < 32 → col B s l r = b (base + 32 * s.val + r)) (s : Fin 8) (r : ℕ) (hr : r < 32) :
    locs (col A s l) (col B s l) r + prods (col A s l) r * scan a b 0 (base + 32 * s.val) = scan a b 0 (base + 32 * s.val + r + 1) := by
  rw [locs_congr r (fun i hi => hA s i (by omega)) (fun i hi => hB s i (by omega)), prods_congr r (fun i hi => hA s i (by omega)),
    Nat.add_assoc _ r 1, scan_add a b 0 (base + 32 * s.val) (r + 1)]
  exact (scan_eq _ _ (fun n => ha _) _ r).symm

/-- The state before a segment is the state of the sequence there. -/
theorem seg_scan (ha : ∀ n, 0 ≤ a n ∧ a n ≠ ⊤) (hA : ∀ (s : Fin 8) (r : ℕ), r < 32 → col A s l r = a (base + 32 * s.val + r))
    (hB : ∀ (s : Fin 8) (r : ℕ), r < 32 → col B s l r = b (base + 32 * s.val + r)) :
    ∀ n, n ≤ 8 → seg A B l (scan a b 0 base) n = scan a b 0 (base + 32 * n)
  | 0, _ => rfl
  | n + 1, hn => by
    have e : n % 8 = n := Nat.mod_eq_of_lt (by omega)
    show locs (col A ⟨n % 8, _⟩ l) (col B ⟨n % 8, _⟩ l) 31 + prods (col A ⟨n % 8, _⟩ l) 31 * seg A B l (scan a b 0 base) n = _
    rw [seg_scan ha hA hB n (by omega)]
    have h := row_scan A B l a b base ha hA hB ⟨n % 8, Nat.mod_lt _ (by decide)⟩ 31 (by decide)
    simp only [e] at h ⊢
    rw [h]
    congr 1

end Cert.KernelIdeal.Point
end
-- ==== Proof.Blocks.lean ====
/-
  The blocks a grid point reads, as the padded arguments of the recurrence, and its coefficients as those of the sequence.
-/
module

public import proofs.«01_k».proof.Proof.Entry
public import proofs.«01_k».proof.Proof.Coef2
public import proofs.«01_k».proof.Proof.Chain

@[expose] public section

set_option maxRecDepth 16384
noncomputable section
open Idealize.ShloMosaic Idealize.ShloMosaic.TcCoe Idealize.SL.Sem
namespace Cert.KernelIdeal.Point
open Cert.KernelIdeal Cert.KernelIdeal.Gen Cert.Rglru
variable (m : (ℓ : Loc nD τ sig) → Buf (Elt Ideal) ℓ)

/-- The arguments of the kernel by coordinates. -/
def args (c : Dev nD) : Args where
  xl b n w := (show S4x2048x5376.Idx → EReal from m ((c : Thread nD τ).loc main_arg0)) (ix3 b n w)
  xc b n w := (show S4x256x5376.Idx → EReal from m ((c : Thread nD τ).loc main_arg1)) (ix3 b n w)
  wa k q l := (show S16x336x336.Idx → EReal from m ((c : Thread nD τ).loc main_arg2)) (ix3 k q l)
  ba w := (show S5376.Idx → EReal from m ((c : Thread nD τ).loc main_arg3)) (ix1 w)
  wx k q l := (show S16x336x336.Idx → EReal from m ((c : Thread nD τ).loc main_arg4)) (ix3 k q l)
  bx w := (show S5376.Idx → EReal from m ((c : Thread nD τ).loc main_arg5)) (ix1 w)
  lam w := (show S5376.Idx → EReal from m ((c : Thread nD τ).loc main_arg6)) (ix1 w)

/-- Where the windows' blocks lie at a grid point. -/
theorem idx : ∀ t : Fin cfg0.N,
    win0_0.index t = ![t.val / 9 % 4, t.val % 9 - 1, t.val / 36] ∧ win0_1.index t = ![t.val / 9 % 4, 0, t.val / 36]
    ∧ win0_2.index t = ![t.val / 36, 0, 0] ∧ win0_3.index t = ![t.val / 36, 0, 0]
    ∧ win0_4.index t = ![0, t.val / 36] ∧ win0_5.index t = ![0, t.val / 36] ∧ win0_6.index t = ![0, t.val / 36]
    ∧ win0_7.index t = ![t.val / 9 % 4, t.val % 9 - 1, t.val / 36] ∧ ((grid0.coords t) 2).val = t.val % 9 :=
  (by decide +kernel : ∀ t : Fin grid0.N, _)

/-- The batch of a grid point. -/
abbrev bat (t : Fin cfg0.N) : Fin 4 := ⟨t.val / 9 % 4, Nat.mod_lt _ (by decide)⟩

/-- The block of channels of lane block `k` at a grid point. -/
abbrev cblk (t : Fin cfg0.N) (k : Fin 4) : Fin 16 := ⟨4 * (t.val / 36) + k.val, by have h := t.isLt; have h' : cfg0.N = 144 := rfl; omega⟩

/-- Functions of three coordinates agree on equal coordinates. -/
theorem xl_val {n₀ n₁ n₂ : ℕ} (X : Fin n₀ → Fin n₁ → Fin n₂ → EReal) {a a' : Fin n₀} {b b' : Fin n₁} {d d' : Fin n₂}
    (h0 : a.val = a'.val) (h1 : b.val = b'.val) (h2 : d.val = d'.val) : X a b d = X a' b' d' := by
  rw [Fin.ext h0, Fin.ext h1, Fin.ext h2]

/-- The block of latent tokens. -/
theorem b_lat (c : Dev nD) (t : Fin cfg0.N) (ht : 1 ≤ t.val % 9) (r : Fin 32) (s : Fin 8) (k : Fin 4) (q : Fin 384) :
    iblk m c 0 t (ix3 r s ⟨384 * k.val + q.val, by omega⟩) = ptok (args m c) (bat t) (256 * (t.val % 9) + 32 * s.val + r.val) (cblk t k) q := by
  have hN : t.val < 144 := t.isLt
  have e : iblk m c 0 t (ix3 r s ⟨384 * k.val + q.val, by omega⟩)
      = (V m c main_v3 : S128x64x6144.Idx → Ideal .f32) (ix3 (⟨t.val / 9 % 4 * 32 + r.val, by omega⟩ : Fin 128) (⟨(t.val % 9 - 1) * 8 + s.val, by omega⟩ : Fin 64) ⟨384 * (cblk t k).val + q.val, by show 384 * (4 * (t.val / 36) + k.val) + q.val < 6144; omega⟩) := by
    unfold iblk
    have key : ∀ Z : (S128x64x6144.Idx → Ideal .f32), ((cfg0.win 0).blk t).view.read (Elt Ideal) Z (ix3 r s ⟨384 * k.val + q.val, by omega⟩) = Z (ix3 (⟨t.val / 9 % 4 * 32 + r.val, by omega⟩ : Fin 128) (⟨(t.val % 9 - 1) * 8 + s.val, by omega⟩ : Fin 64) ⟨384 * (cblk t k).val + q.val, by show 384 * (4 * (t.val / 36) + k.val) + q.val < 6144; omega⟩) := by
      intro Z
      blk_ext [idx t]
    exact key _
  refine e.trans ?_
  refine (v_lat m c _ _ _ _).trans ?_
  unfold ptok
  by_cases h : q.val < 336
  · refine (dif_pos h).trans ?_
    refine Eq.trans ?_ (dif_pos h).symm
    rw [tok, dif_neg (by omega)]
    show (args m c).xl _ _ _ = _
    refine xl_val _ ?_ ?_ rfl
    · show (t.val / 9 % 4 * 32 + r.val) / 32 = t.val / 9 % 4
      omega
    · show (t.val / 9 % 4 * 32 + r.val) % 32 * 64 + ((t.val % 9 - 1) * 8 + s.val)
        = (256 * (t.val % 9) + 32 * s.val + r.val - 256) % 32 * 64 + (256 * (t.val % 9) + 32 * s.val + r.val - 256) / 32 % 64
      omega
  · refine (dif_neg h).trans ?_
    refine Eq.trans ?_ (dif_neg h).symm
    rfl

/-- The block of context tokens. -/
theorem b_ctx (c : Dev nD) (t : Fin cfg0.N) (ht : t.val % 9 = 0) (r : Fin 32) (s : Fin 8) (k : Fin 4) (q : Fin 384) :
    iblk m c 1 t (ix3 r s ⟨384 * k.val + q.val, by omega⟩) = ptok (args m c) (bat t) (256 * (t.val % 9) + 32 * s.val + r.val) (cblk t k) q := by
  have hN : t.val < 144 := t.isLt
  have e : iblk m c 1 t (ix3 r s ⟨384 * k.val + q.val, by omega⟩)
      = (V m c main_v9 : S128x8x6144.Idx → Ideal .f32) (ix3 (⟨t.val / 9 % 4 * 32 + r.val, by omega⟩ : Fin 128) s ⟨384 * (cblk t k).val + q.val, by show 384 * (4 * (t.val / 36) + k.val) + q.val < 6144; omega⟩) := by
    unfold iblk
    have key : ∀ Z : (S128x8x6144.Idx → Ideal .f32), ((cfg0.win 1).blk t).view.read (Elt Ideal) Z (ix3 r s ⟨384 * k.val + q.val, by omega⟩) = Z (ix3 (⟨t.val / 9 % 4 * 32 + r.val, by omega⟩ : Fin 128) s ⟨384 * (cblk t k).val + q.val, by show 384 * (4 * (t.val / 36) + k.val) + q.val < 6144; omega⟩) := by
      intro Z
      blk_ext [idx t]
    exact key _
  refine e.trans ?_
  refine (v_ctx m c _ _ _ _).trans ?_
  unfold ptok
  by_cases h : q.val < 336
  · refine (dif_pos h).trans ?_
    refine Eq.trans ?_ (dif_pos h).symm
    rw [tok, dif_pos (by omega)]
    show (args m c).xc _ _ _ = _
    refine xl_val _ ?_ ?_ rfl
    · show (t.val / 9 % 4 * 32 + r.val) / 32 = t.val / 9 % 4
      omega
    · show s.val * 32 + (t.val / 9 % 4 * 32 + r.val) % 32 = 256 * (t.val % 9) + 32 * s.val + r.val
      omega
  · refine (dif_neg h).trans ?_
    refine Eq.trans ?_ (dif_neg h).symm
    rfl

/-- The block of the decay gate's weights. -/
theorem b_wa (c : Dev nD) (t : Fin cfg0.N) (k : Fin 4) (q l : Fin 384) :
    iblk m c 2 t (ix3 k q l) = pmat (args m c).wa (cblk t k) q l := by
  have hN : t.val < 144 := t.isLt
  have e : iblk m c 2 t (ix3 k q l) = (V m c main_v11 : S16x384x384.Idx → Ideal .bf16) (ix3 (cblk t k) q l) := by
    unfold iblk
    generalize V m c = Z
    blk_point [idx t]
  rw [e, v_wa, pmat]
  rfl

/-- The block of the input gate's weights. -/
theorem b_wx (c : Dev nD) (t : Fin cfg0.N) (k : Fin 4) (q l : Fin 384) :
    iblk m c 3 t (ix3 k q l) = pmat (args m c).wx (cblk t k) q l := by
  have hN : t.val < 144 := t.isLt
  have e : iblk m c 3 t (ix3 k q l) = (V m c main_v13 : S16x384x384.Idx → Ideal .bf16) (ix3 (cblk t k) q l) := by
    unfold iblk
    generalize V m c = Z
    blk_point [idx t]
  rw [e, v_wx, pmat]
  rfl

/-- The block of the decay gate's bias. -/
theorem b_ba (c : Dev nD) (t : Fin cfg0.N) (k : Fin 4) (l : Fin 384) :
    iblk m c 4 t (ix2 0 ⟨384 * k.val + l.val, by omega⟩) = prw (args m c).ba (cblk t k) l := by
  have hN : t.val < 144 := t.isLt
  have e : iblk m c 4 t (ix2 0 ⟨384 * k.val + l.val, by omega⟩)
      = (V m c main_v17 : S1x6144.Idx → Ideal .f32) (ix2 0 ⟨384 * (cblk t k).val + l.val, by show 384 * (4 * (t.val / 36) + k.val) + l.val < 6144; omega⟩) := by
    unfold iblk
    generalize V m c = Z
    blk_point [idx t]
  rw [e, v_ba, prw]
  rfl

/-- The block of the input gate's bias. -/
theorem b_bx (c : Dev nD) (t : Fin cfg0.N) (k : Fin 4) (l : Fin 384) :
    iblk m c 5 t (ix2 0 ⟨384 * k.val + l.val, by omega⟩) = prw (args m c).bx (cblk t k) l := by
  have hN : t.val < 144 := t.isLt
  have e : iblk m c 5 t (ix2 0 ⟨384 * k.val + l.val, by omega⟩)
      = (V m c main_v21 : S1x6144.Idx → Ideal .f32) (ix2 0 ⟨384 * (cblk t k).val + l.val, by show 384 * (4 * (t.val / 36) + k.val) + l.val < 6144; omega⟩) := by
    unfold iblk
    generalize V m c = Z
    blk_point [idx t]
  rw [e, v_bx, prw]
  rfl

/-- The block of the decay parameter. -/
theorem b_lam (c : Dev nD) (t : Fin cfg0.N) (k : Fin 4) (l : Fin 384) :
    iblk m c 6 t (ix2 0 ⟨384 * k.val + l.val, by omega⟩) = prw (args m c).lam (cblk t k) l := by
  have hN : t.val < 144 := t.isLt
  have e : iblk m c 6 t (ix2 0 ⟨384 * k.val + l.val, by omega⟩)
      = (V m c main_v25 : S1x6144.Idx → Ideal .f32) (ix2 0 ⟨384 * (cblk t k).val + l.val, by show 384 * (4 * (t.val / 36) + k.val) + l.val < 6144; omega⟩) := by
    unfold iblk
    generalize V m c = Z
    blk_point [idx t]
  rw [e, v_lam, prw]
  rfl

/-- The block of tokens a grid point works on. -/
theorem act_at (c : Dev nD) (t : Fin cfg0.N) (r : Fin 32) (s : Fin 8) (k : Fin 4) (q : Fin 384) :
    act (grid0.coords t) (iblk m c 1 t) (iblk m c 0 t) (ix3 r s ⟨384 * k.val + q.val, by omega⟩)
      = ptok (args m c) (bat t) (256 * (t.val % 9) + 32 * s.val + r.val) (cblk t k) q := by
  unfold act
  rw [(idx t).2.2.2.2.2.2.2.2]
  by_cases h : t.val % 9 = 0
  · rw [if_pos h]; exact b_ctx m c t h r s k q
  · rw [if_neg h]; exact b_lat m c t (by omega) r s k q

/-- The decay gate's linear map at a grid point. -/
theorem lin_a (c : Dev nD) (t : Fin cfg0.N) (k : Fin 4) (r : Fin 32) (s : Fin 8) (l : Fin 384) :
    lin (act (grid0.coords t) (iblk m c 1 t) (iblk m c 0 t)) (iblk m c 2 t) (iblk m c 4 t) k r s l
      = plin (args m c) (args m c).wa (args m c).ba (bat t) (256 * (t.val % 9) + 32 * s.val + r.val) (cblk t k) l := by
  unfold lin plin
  rw [b_ba]
  refine congrArg (· + _) (Finset.sum_congr rfl fun q _ => ?_)
  rw [act_at, b_wa]

/-- The input gate's linear map at a grid point. -/
theorem lin_x (c : Dev nD) (t : Fin cfg0.N) (k : Fin 4) (r : Fin 32) (s : Fin 8) (l : Fin 384) :
    lin (act (grid0.coords t) (iblk m c 1 t) (iblk m c 0 t)) (iblk m c 3 t) (iblk m c 5 t) k r s l
      = plin (args m c) (args m c).wx (args m c).bx (bat t) (256 * (t.val % 9) + 32 * s.val + r.val) (cblk t k) l := by
  unfold lin plin
  rw [b_bx]
  refine congrArg (· + _) (Finset.sum_congr rfl fun q _ => ?_)
  rw [act_at, b_wx]

/-- The decays of a grid point. -/
abbrev dec (c : Dev nD) (t : Fin cfg0.N) : Vec Ideal S32x8x1536 .f32 :=
  decays (grid0.coords t) (iblk m c 1 t) (iblk m c 0 t) (iblk m c 2 t) (iblk m c 3 t) (iblk m c 4 t) (iblk m c 5 t) (iblk m c 6 t)

/-- The inputs of a grid point. -/
abbrev inp (c : Dev nD) (t : Fin cfg0.N) : Vec Ideal S32x8x1536 .f32 :=
  inputs (grid0.coords t) (iblk m c 1 t) (iblk m c 0 t) (iblk m c 2 t) (iblk m c 3 t) (iblk m c 4 t) (iblk m c 5 t) (iblk m c 6 t)

/-- The block of channels of a lane at a grid point. -/
abbrev lblk (t : Fin cfg0.N) (l : Fin 1536) : Fin 16 := cblk t ⟨l.val / 384, by omega⟩

/-- The lane inside its block. -/
abbrev lrem (l : Fin 1536) : Fin 384 := ⟨l.val % 384, by omega⟩

/-- A segment of the decays of a grid point is a stretch of the sequence's. -/
theorem col_dec (c : Dev nD) (t : Fin cfg0.N) (l : Fin 1536) (s : Fin 8) (r : ℕ) (hr : r < 32) :
    col (dec m c t) s l r = pa (args m c) (bat t) (lblk t l) (lrem l) (256 * (t.val % 9) + 32 * s.val + r) := by
  show decay (grid0.coords t) (iblk m c 1 t) (iblk m c 0 t) (iblk m c 2 t) (iblk m c 3 t) (iblk m c 4 t) (iblk m c 5 t) (iblk m c 6 t) ⟨l.val / 384, by omega⟩ ⟨r % 32, Nat.mod_lt _ (by norm_num)⟩ s ⟨l.val % 384, by omega⟩ = _
  unfold decay pa
  rw [lin_a, b_lam]
  simp only [Nat.mod_eq_of_lt hr]

/-- A segment of the inputs of a grid point is a stretch of the sequence's. -/
theorem col_inp (c : Dev nD) (t : Fin cfg0.N) (l : Fin 1536) (s : Fin 8) (r : ℕ) (hr : r < 32) :
    col (inp m c t) s l r = pb (args m c) (bat t) (lblk t l) (lrem l) (256 * (t.val % 9) + 32 * s.val + r) := by
  show input (grid0.coords t) (iblk m c 1 t) (iblk m c 0 t) (iblk m c 2 t) (iblk m c 3 t) (iblk m c 4 t) (iblk m c 5 t) (iblk m c 6 t) ⟨l.val / 384, by omega⟩ ⟨r % 32, Nat.mod_lt _ (by norm_num)⟩ s ⟨l.val % 384, by omega⟩ = _
  unfold input pb
  rw [lin_a, lin_x, b_lam, act_at]
  simp only [Nat.mod_eq_of_lt hr]

end Cert.KernelIdeal.Point
end
-- ==== Proof.Carry.lean ====
/-
  The states carried through the grid are those of the scan, and the array the kernel leaves is the scan of the latent tokens.
-/
module

public import proofs.«01_k».proof.Proof.Gen.KernelIdeal.Value
public import proofs.«01_k».proof.Proof.Point
public import proofs.«01_k».proof.Proof.Blocks
public import Idealize.ShloMosaic.Lib.Pipeline.ValueKit

@[expose] public section

set_option maxRecDepth 16384
noncomputable section
open Idealize.ShloMosaic Idealize.ShloMosaic.TcCoe Idealize.SL.Sem
namespace Cert.KernelIdeal.Point
open Cert.KernelIdeal Cert.KernelIdeal.Gen Cert.Rglru
variable (m : (ℓ : Loc nD τ sig) → Buf (Elt Ideal) ℓ)

/-- The state of a lane at a grid point after `n` tokens of its sequence. -/
def lane (c : Dev nD) (t : Fin cfg0.N) (l : Fin 1536) (n : ℕ) : EReal :=
  scan (pa (args m c) (bat t) (lblk t l) (lrem l)) (pb (args m c) (bat t) (lblk t l) (lrem l)) 0 n

/-- The states of the segments of a grid point entered with the state of the sequence. -/
theorem seg_lane (c : Dev nD) (t : Fin cfg0.N) (l : Fin 1536) (n : ℕ) (hn : n ≤ 8) :
    seg (dec m c t) (inp m c t) l (lane m c t l (256 * (t.val % 9))) n = lane m c t l (256 * (t.val % 9) + 32 * n) :=
  seg_scan _ _ l _ _ _ (pa_ok _ _ _ _) (col_dec m c t l) (col_inp m c t l) n hn

/-- A stored row of a grid point is the state of the sequence. -/
theorem row_lane (c : Dev nD) (t : Fin cfg0.N) (l : Fin 1536) (s : Fin 8) (r : ℕ) (hr : r < 32) :
    locs (col (dec m c t) s l) (col (inp m c t) s l) r + prods (col (dec m c t) s l) r * lane m c t l (256 * (t.val % 9) + 32 * s.val)
      = lane m c t l (256 * (t.val % 9) + 32 * s.val + r + 1) :=
  row_scan _ _ l _ _ _ (pa_ok _ _ _ _) (col_dec m c t l) (col_inp m c t l) s r hr

/-- The states carried after a grid point. -/
theorem carry (c : Dev nD) : ∀ (n : ℕ) (hn : n < cfg0.N) (l : Fin 1536),
    (outsAt0 m c n hn).2 (ix2 0 l) = lane m c ⟨n, hn⟩ l (256 * (n % 9) + 256)
  | 0, hn, l => by
    have e := carry_A m c ⟨0, hn⟩ rfl (by show ¬1 ≤ 0 % 9; omega)
    refine (congrFun e (ix2 0 l)).trans ?_
    exact seg_lane m c ⟨0, hn⟩ l 8 le_rfl
  | n + 1, hn, l => by
    by_cases h0 : (n + 1) % 9 = 0
    · have e := carry_A m c ⟨n + 1, hn⟩ h0 (by show ¬1 ≤ (n + 1) % 9; omega)
      refine (congrFun e (ix2 0 l)).trans ?_
      have f := seg_lane m c ⟨n + 1, hn⟩ l 8 le_rfl
      have z : lane m c ⟨n + 1, hn⟩ l (256 * ((⟨n + 1, hn⟩ : Fin cfg0.N).val % 9)) = 0 := by
        show lane m c ⟨n + 1, hn⟩ l (256 * ((n + 1) % 9)) = 0
        rw [h0]
        rfl
      rw [z] at f
      exact f
    · have e := carry_B m c ⟨n + 1, hn⟩ h0 (by show 1 ≤ (n + 1) % 9; omega)
      refine (congrFun e (ix2 0 l)).trans ?_
      have ih := carry c n (by omega) l
      have f := seg_lane m c ⟨n + 1, hn⟩ l 8 le_rfl
      have z : lane m c ⟨n, by omega⟩ l (256 * (n % 9) + 256) = lane m c ⟨n + 1, hn⟩ l (256 * ((⟨n + 1, hn⟩ : Fin cfg0.N).val % 9)) := by
        have hb : bat ⟨n, by omega⟩ = bat ⟨n + 1, hn⟩ := Fin.ext (by show n / 9 % 4 = (n + 1) / 9 % 4; omega)
        have hk : lblk ⟨n, by omega⟩ l = lblk ⟨n + 1, hn⟩ l := Fin.ext (by show 4 * (n / 36) + l.val / 384 = 4 * ((n + 1) / 36) + l.val / 384; omega)
        have he : 256 * (n % 9) + 256 = 256 * ((n + 1) % 9) := by omega
        unfold lane
        rw [hb, hk, he]
      rw [← z, ← ih] at f
      exact f

/-- A grid point writes its block back only when it works on latent tokens. -/
theorem flush_lat : ∀ t : Fin cfg0.N, (cfg0.win 7).flush t = true → 1 ≤ t.val % 9 :=
  (by decide +kernel : ∀ t : Fin grid0.N, _)

/-- What a grid point on latent tokens stores. -/
theorem out_at (c : Dev nD) (t : Fin cfg0.N) (h : 1 ≤ t.val % 9) (y : S32x8x1536.Idx) :
    (outsAt0 m c t.val t.isLt).1 y = lane m c t (y 2) (256 * (t.val % 9) + 32 * (y 1).val + (y 0).val + 1) := by
  have e := out_B m c t (by omega) h
  refine (congrFun e y).trans ?_
  have hc := carry m c (t.val - 1) (by omega) (y 2)
  have z : lane m c ⟨t.val - 1, by omega⟩ (y 2) (256 * ((t.val - 1) % 9) + 256) = lane m c t (y 2) (256 * (t.val % 9)) := by
    have hb : bat ⟨t.val - 1, by omega⟩ = bat t := Fin.ext (by show (t.val - 1) / 9 % 4 = t.val / 9 % 4; omega)
    have hk : lblk ⟨t.val - 1, by omega⟩ (y 2) = lblk t (y 2) := Fin.ext (by show 4 * ((t.val - 1) / 36) + (y 2).val / 384 = 4 * (t.val / 36) + (y 2).val / 384; omega)
    have he : 256 * ((t.val - 1) % 9) + 256 = 256 * (t.val % 9) := by omega
    unfold lane
    rw [hb, hk, he]
  rw [z] at hc
  have h1 : (y 1).val < 8 := (y 1).isLt
  have f := seg_lane m c t (y 2) (y 1).val h1.le
  rw [← hc] at f
  have g := row_lane m c t (y 2) (y 1) (y 0).val (y 0).isLt
  rw [← f] at g
  exact g

/-- The array the kernel returns. -/
def scanned (c : Dev nD) : S128x64x6144.Idx → Ideal .f32 := fun j =>
  result (args m c) (j 0) (j 1) ⟨(j 2).val / 384, by have h : (j 2).val < 6144 := (j 2).isLt; omega⟩ ⟨(j 2).val % 384, by omega⟩

/-- A lane of a stored block is an entry of the returned array. -/
theorem lane_result (c : Dev nD) (t : Fin cfg0.N) (h : 1 ≤ t.val % 9) (y : S32x8x1536.Idx) (j : S128x64x6144.Idx)
    (h0 : (j 0).val = t.val / 9 % 4 * 32 + (y 0).val) (h1 : (j 1).val = (t.val % 9 - 1) * 8 + (y 1).val) (h2 : (j 2).val = t.val / 36 * 1536 + (y 2).val) :
    lane m c t (y 2) (256 * (t.val % 9) + 32 * (y 1).val + (y 0).val + 1) = scanned m c j := by
  have y0 : (y 0).val < 32 := (y 0).isLt
  have y1 : (y 1).val < 8 := (y 1).isLt
  have y2 : (y 2).val < 1536 := (y 2).isLt
  have j2 : (j 2).val < 6144 := (j 2).isLt
  have j0 : (j 0).val < 128 := (j 0).isLt
  refine Eq.trans ?_ (result_eq (args m c) (j 0) (j 1) ⟨(j 2).val / 384, by omega⟩ ⟨(j 2).val % 384, by omega⟩)
  have hb : bat t = ⟨(j 0).val / 32, by omega⟩ := Fin.ext (by show t.val / 9 % 4 = (j 0).val / 32; omega)
  have hk : lblk t (y 2) = ⟨(j 2).val / 384, by omega⟩ := Fin.ext (by show 4 * (t.val / 36) + (y 2).val / 384 = (j 2).val / 384; omega)
  have hl : lrem (y 2) = ⟨(j 2).val % 384, by omega⟩ := Fin.ext (by show (y 2).val % 384 = (j 2).val % 384; omega)
  have he : 256 * (t.val % 9) + 32 * (y 1).val + (y 0).val + 1 = 256 + 32 * (j 1).val + (j 0).val % 32 + 1 := by omega
  unfold lane
  rw [hb, hk, hl, he]

/-- The array after the run is the scan of the latent tokens. -/
theorem final (c : Dev nD) : (dats m 0 c).arrAt 7 cfg0.N = scanned m c := by
  refine (dats m 0 c).arrAt_eq_of_covers 7 (scanned m c) (by decide +kernel) fun t hf y => ?_
  have h := flush_lat t hf
  have e := out_at m c t h y
  have he : (dats m 0 c).after 7 t = (outsAt0 m c t.val t.isLt).1 := after0_7 m c t
  refine (congrFun he y).trans (e.trans ?_)
  refine lane_result m c t h y _ ?_ ?_ ?_
  all_goals
    blk_simp [idx t]
    try omega

end Cert.KernelIdeal.Point
end
-- ==== Proof.RefLoop.lean ====
/-
  The reference's loop: the state after some steps is the scan of the coefficients the loop enters with, and the stack holds the states.
-/
module

public import proofs.«01_k».proof.Proof.Gen.ReferenceIdeal.Run
public import proofs.«01_k».proof.Proof.Scalar
public import Idealize.ShloMosaic.Lib.Pipeline.ValueKit
public import Idealize.ShloMosaic.Lib.DynamicIndex
public import Idealize.ShloMosaic.Lib.Claim

@[expose] public section

set_option maxRecDepth 16384
noncomputable section
open Idealize.ShloMosaic Idealize.ShloMosaic.TcCoe Idealize.SL.Sem Idealize.ShloMosaic.StableHlo
namespace Cert.ReferenceIdeal.Loop
open Cert.ReferenceIdeal Cert.ReferenceIdeal.Gen Cert.ReferenceIdeal.Value Cert.Rglru

/-- A row of a stack, sliced at its number. -/
theorem slice_at (X : S2304x4x5376.Idx → EReal) (st : Fin 3 → Int) (hs) (hc) (k : ℕ) (hk : k < 2304)
    (h0 : ∀ a, st a = ((![k, 0, 0] : Fin 3 → ℕ) a : Int)) (b : Fin 4) (w : Fin 5376) :
    shapeCast S4x5376 (Host.dynamicSlice S1x4x5376 X st hs) hc (ix2 b w) = X (ix3 ⟨k, hk⟩ b w) := by
  have hf : S2304x4x5376.Slices ![k, 0, 0] S1x4x5376 := ⟨rfl, fun a => by
    fin_cases a
    · show k + 1 ≤ 2304; omega
    · show 0 + 4 ≤ 4; omega
    · show 0 + 5376 ≤ 5376; omega⟩
  rw [Host.dynamicSlice_eq_extractStridedSlice S1x4x5376 X st ![k, 0, 0] hs hf h0]
  obtain ⟨R, hR⟩ : ∃ R : EReal, R = X (ix3 ⟨k, hk⟩ b w) := ⟨_, rfl⟩
  rw [← hR]
  pointwise []
  rw [hR]

/-- A stack with a row put at its number, read. -/
theorem update_at (X : S2304x4x5376.Idx → EReal) (U : S4x5376.Idx → EReal) (hb) (st : Fin 3 → Int) (hs) (k : ℕ) (hk : k < 2304)
    (h0 : ∀ a, st a = ((![k, 0, 0] : Fin 3 → ℕ) a : Int)) (n : Fin 2304) (b : Fin 4) (w : Fin 5376) :
    Host.dynamicUpdateSlice X (broadcastInDim S1x4x5376 ![1, 2] hb U) st hs (ix3 n b w)
      = if n.val = k then U (ix2 b w) else X (ix3 n b w) := by
  have hf : S2304x4x5376.Slices ![k, 0, 0] S1x4x5376 := ⟨rfl, fun a => by
    fin_cases a
    · show k + 1 ≤ 2304; omega
    · show 0 + 4 ≤ 4; omega
    · show 0 + 5376 ≤ 5376; omega⟩
  rw [Host.dynamicUpdateSlice_eq_updateSlice X _ st hs ![k, 0, 0] (fun a => by rw [h0]; have := hf.2 a; omega) hf]
  unfold updateSlice
  by_cases h : n.val = k
  · rw [if_pos h]
    refine (dif_pos (fun a => ?_)).trans ?_
    · fin_cases a
      · show k ≤ n.val ∧ n.val < k + 1; omega
      · show 0 ≤ b.val ∧ b.val < 0 + 4; omega
      · show 0 ≤ w.val ∧ w.val < 0 + 5376; omega
    · unfold broadcastInDim
      refine congrArg U ?_
      funext a
      fin_cases a
      · exact Fin.ext (by first | rfl | simp)
      · exact Fin.ext (by first | rfl | simp)
  · rw [if_neg h]
    refine dif_neg fun g => h ?_
    have g0 : k ≤ n.val ∧ n.val < k + 1 := g 0
    omega

variable (m : (ℓ : Loc nD τ sig) → Buf (Elt Ideal) ℓ)

/-- The buffers after some steps of the loop. -/
abbrev W (c : Dev nD) (k : ℕ) : Valuation τ sig (Elt Ideal) := STEP^[k] (entryContents preI m c)

/-- The decays the loop enters with, by coordinates. -/
def la (c : Dev nD) (b : Fin 4) (w : Fin 5376) (n : ℕ) : EReal :=
  if h : n < 2304 then (show S2304x4x5376.Idx → EReal from entryContents preI m c (Proc.devRef .tc main_v48_0)) (ix3 ⟨n, h⟩ b w) else 0

/-- The inputs the loop enters with, by coordinates. -/
def lb (c : Dev nD) (b : Fin 4) (w : Fin 5376) (n : ℕ) : EReal :=
  if h : n < 2304 then (show S2304x4x5376.Idx → EReal from entryContents preI m c (Proc.devRef .tc main_v48_1)) (ix3 ⟨n, h⟩ b w) else 0

/-- A step is taken on the buffers of the step before. -/
theorem W_succ (c : Dev nD) (k : ℕ) : W m c (k + 1) = STEP (W m c k) := Function.iterate_succ_apply' _ _ _

/-- The loop leaves the decays alone. -/
theorem W_a (c : Dev nD) : ∀ k, W m c k (Proc.devRef .tc main_v48_0) = entryContents preI m c (Proc.devRef .tc main_v48_0)
  | 0 => rfl
  | k + 1 => by rw [W_succ, STEP_main_v48_0, W_a c k]

/-- The loop leaves the inputs alone. -/
theorem W_b (c : Dev nD) : ∀ k, W m c k (Proc.devRef .tc main_v48_1) = entryContents preI m c (Proc.devRef .tc main_v48_1)
  | 0 => rfl
  | k + 1 => by rw [W_succ, STEP_main_v48_1, W_b c k]

/-- The counter counts the steps. -/
theorem W_ctr (c : Dev nD) (k : ℕ) : W m c k (Proc.devRef .tc main_v48_2) = fun _ => Scf.iv 0#32 1#32 k :=
  (atK_agree m c k main_v48_2 (by decide)).symm.trans (atK_ctr m c k)

/-- The counter, read as a number. -/
theorem iv_int (k : ℕ) (hk : k < 2304) : (Scf.iv 0#32 1#32 k).toInt = (k : Int) := by
  have e : Scf.iv 0#32 1#32 k = BitVec.ofNat 32 k := by simp [Scf.iv]
  rw [e]
  exact toInt_ofNat_of_lt (by omega)

/-- Where step `k` reads and writes. -/
theorem starts (c : Dev nD) (k : ℕ) (hk : k < 2304) (a : Fin 3) :
    (((![W m c k (Proc.devRef .tc main_v48_2), constantI S_ 32 0#32, constantI S_ 32 0#32] : Fin 3 → (⟨S_, .i32⟩ : BufTy).Contents (Elt Ideal))) a (Shape.Idx.first h_S_)).toInt
      = ((![k, 0, 0] : Fin 3 → ℕ) a : Int) := by
  rw [W_ctr]
  fin_cases a
  · exact iv_int k hk
  · rfl
  · rfl

/-- The value a step computes. -/
theorem res_at (c : Dev nD) (k : ℕ) (hk : k < 2304) (b : Fin 4) (w : Fin 5376) :
    (show S4x5376.Idx → EReal from res_main_while0b_v60 (W m c k)) (ix2 b w)
      = la m c b w k * (show S4x5376.Idx → EReal from W m c k (Proc.devRef .tc main_v48_3)) (ix2 b w) + lb m c b w k := by
  have ea := slice_at (W m c k (Proc.devRef .tc main_v48_0)) _ sliceFits_S2304x4x5376_S1x4x5376 shapeCasts_S1x4x5376_S4x5376 k hk (starts m c k hk) b w
  have eb := slice_at (W m c k (Proc.devRef .tc main_v48_1)) _ sliceFits_S2304x4x5376_S1x4x5376 shapeCasts_S1x4x5376_S4x5376 k hk (starts m c k hk) b w
  have la' : la m c b w k = (show S2304x4x5376.Idx → EReal from W m c k (Proc.devRef .tc main_v48_0)) (ix3 ⟨k, hk⟩ b w) := by
    rw [W_a]; exact dif_pos hk
  have lb' : lb m c b w k = (show S2304x4x5376.Idx → EReal from W m c k (Proc.devRef .tc main_v48_1)) (ix3 ⟨k, hk⟩ b w) := by
    rw [W_b]; exact dif_pos hk
  rw [la', lb']
  exact congrArg₂ (· + ·) (congrArg₂ (· * ·) ea rfl) eb

/-- The state after `k` steps. -/
theorem state_at (c : Dev nD) (h0 : ∀ b w, (show S4x5376.Idx → EReal from entryContents preI m c (Proc.devRef .tc main_v48_3)) (ix2 b w) = 0) :
    ∀ k, k ≤ 2304 → ∀ b w, (show S4x5376.Idx → EReal from W m c k (Proc.devRef .tc main_v48_3)) (ix2 b w) = scan (la m c b w) (lb m c b w) 0 k
  | 0, _, b, w => h0 b w
  | k + 1, hk, b, w => by
    have ih := state_at c h0 k (by omega) b w
    have e := res_at m c k (by omega) b w
    rw [ih] at e
    rw [W_succ, STEP_main_v48_3]
    exact e

/-- The rows stacked by `k` steps. -/
theorem stack_at (c : Dev nD) (h0 : ∀ b w, (show S4x5376.Idx → EReal from entryContents preI m c (Proc.devRef .tc main_v48_3)) (ix2 b w) = 0) :
    ∀ k, k ≤ 2304 → ∀ (n : Fin 2304) b w, n.val < k →
      (show S2304x4x5376.Idx → EReal from W m c k (Proc.devRef .tc main_v48_4)) (ix3 n b w) = scan (la m c b w) (lb m c b w) 0 (n.val + 1)
  | 0, _, n, b, w, hn => absurd hn (Nat.not_lt_zero _)
  | k + 1, hk, n, b, w, hn => by
    have e := res_at m c k (by omega) b w
    rw [state_at m c h0 k (by omega) b w] at e
    rw [W_succ, STEP_main_v48_4]
    refine (update_at (W m c k (Proc.devRef .tc main_v48_4)) (res_main_while0b_v60 (W m c k)) bcast_S4x5376_S1x4x5376_1_2 _ updateFits_S2304x4x5376_S1x4x5376 k (by omega) (starts m c k (by omega)) n b w).trans ?_
    by_cases h : n.val = k
    · rw [if_pos h, h]
      exact e
    · rw [if_neg h]
      exact stack_at c h0 k (by omega) n b w (by omega)

end Cert.ReferenceIdeal.Loop
end
-- ==== Proof.RefEntry.lean ====
/-
  The coefficients the reference's loop enters with, and the array the reference returns.
-/
module

public import proofs.«01_k».proof.Proof.RefLoop
public import proofs.«01_k».proof.Proof.Spec
public import proofs.«01_k».proof.Proof.Coef

@[expose] public section

set_option maxRecDepth 16384
noncomputable section
open Idealize.ShloMosaic Idealize.ShloMosaic.TcCoe Idealize.SL.Sem Idealize.ShloMosaic.StableHlo
namespace Cert.ReferenceIdeal.Loop
open Cert.ReferenceIdeal Cert.ReferenceIdeal.Gen Cert.ReferenceIdeal.Value Cert.Rglru
variable (m : (ℓ : Loc nD τ sig) → Buf (Elt Ideal) ℓ)

/-- The arguments of the reference by coordinates. -/
def args (c : Dev nD) : Args where
  xl b n w := (show S4x2048x5376.Idx → EReal from m ((c : Thread nD τ).loc main_arg0)) (ix3 b n w)
  xc b n w := (show S4x256x5376.Idx → EReal from m ((c : Thread nD τ).loc main_arg1)) (ix3 b n w)
  wa k q l := (show S16x336x336.Idx → EReal from m ((c : Thread nD τ).loc main_arg2)) (ix3 k q l)
  ba w := (show S5376.Idx → EReal from m ((c : Thread nD τ).loc main_arg3)) (ix1 w)
  wx k q l := (show S16x336x336.Idx → EReal from m ((c : Thread nD τ).loc main_arg4)) (ix3 k q l)
  bx w := (show S5376.Idx → EReal from m ((c : Thread nD τ).loc main_arg5)) (ix1 w)
  lam w := (show S5376.Idx → EReal from m ((c : Thread nD τ).loc main_arg6)) (ix1 w)

/-- The literal two. -/
theorem c_two : Ideal.ofBits FTy.f32 1073741824#32 = ((2 : ℝ) : EReal) := by
  simp [Ideal.ofBits, Ideal.ieee]; norm_num [zpow_neg]; rw [← EReal.coe_mul]; norm_num

/-- The logarithm of the decay as the reference computes it. -/
theorem ref_log (s lam : EReal) :
    Ideal.ofBits FTy.f32 3238002688#32 * Ideal.div 1 (1 + Ideal.exp (-s))
        * (if -lam ≠ -lam then -lam else max (-lam) 0 + Ideal.log1p (Ideal.exp (-(FloatOps.absf (F := Ideal) (φ := .f32) (-lam) : EReal)))) = logA lam s := by
  rw [if_neg (fun h => h rfl), Cert.KernelIdeal.Point.c_neg8]
  exact mul_right_comm _ _ _

/-- The scale of the input as the reference computes it. -/
theorem ref_root (s : EReal) : Ideal.sqrt (-(Ideal.exp (Ideal.ofBits FTy.f32 1073741824#32 * s) - 1)) = root s := by
  unfold root
  rw [c_two]

/-- Channel `w` by its block and lane. -/
theorem chan_eq (w : Fin 5376) : chan ⟨w.val / 336, by omega⟩ ⟨w.val % 336, by omega⟩ = w := Fin.ext (by show w.val / 336 * 336 + w.val % 336 = w.val; omega)

/-- A gate's linear map of a token, at channel `w`. -/
def gw (G : Args) (Wt : Fin 16 → Fin 336 → Fin 336 → EReal) (β : Fin 5376 → EReal) (b : Fin 4) (n : ℕ) (w : Fin 5376) : EReal :=
  (∑ q : Fin 336, tok G b n ⟨w.val / 336 * 336 + q.val, by omega⟩ * Wt ⟨w.val / 336, by omega⟩ q ⟨w.val % 336, by omega⟩) + β w

/-- The linear map of block and lane is that of the channel. -/
theorem glin_w (G : Args) (Wt : Fin 16 → Fin 336 → Fin 336 → EReal) (β : Fin 5376 → EReal) (b : Fin 4) (n : ℕ) (w : Fin 5376) :
    glin G Wt β b n ⟨w.val / 336, by omega⟩ ⟨w.val % 336, by omega⟩ = gw G Wt β b n w := by
  unfold glin gw
  exact congrArg (fun v => _ + β v) (chan_eq w)

/-- The decay at channel `w`. -/
theorem da_w (G : Args) (b : Fin 4) (n : ℕ) (w : Fin 5376) :
    da G b ⟨w.val / 336, by omega⟩ ⟨w.val % 336, by omega⟩ n = Ideal.exp (logA (G.lam w) (gw G G.wa G.ba b n w)) := by
  unfold da
  rw [glin_w]
  exact congrArg (fun v => Ideal.exp (logA (G.lam v) _)) (chan_eq w)

/-- The input at channel `w`. -/
theorem db_w (G : Args) (b : Fin 4) (n : ℕ) (w : Fin 5376) :
    db G b ⟨w.val / 336, by omega⟩ ⟨w.val % 336, by omega⟩ n
      = root (logA (G.lam w) (gw G G.wa G.ba b n w)) * (sigm (gw G G.wx G.bx b n w) * tok G b n w) := by
  unfold db
  rw [glin_w, glin_w]
  exact congrArg (fun v => root (logA (G.lam v) _) * (_ * tok G b n v)) (chan_eq w)

/-- A token as the reference puts the sequence together. -/
theorem ref_tok (c : Dev nD) (n : Fin 2304) (b : Fin 4) (w : Fin 5376) (h2 : ¬n.val < 256 → (n.val - 256) % 32 * 64 + (n.val - 256) / 32 < 2048) :
    (if h : n.val < 256 then (show S4x256x5376.Idx → EReal from m ((c : Thread nD τ).loc main_arg1)) (ix3 b ⟨n.val, h⟩ w)
      else (show S4x2048x5376.Idx → EReal from m ((c : Thread nD τ).loc main_arg0)) (ix3 b ⟨(n.val - 256) % 32 * 64 + (n.val - 256) / 32, h2 h⟩ w))
      = tok (args m c) b n.val w := by
  unfold tok
  by_cases h : n.val < 256
  · refine (dif_pos h).trans (Eq.trans ?_ (dif_pos h).symm)
    rfl
  · refine (dif_neg h).trans (Eq.trans ?_ (dif_neg h).symm)
    have e : (⟨(n.val - 256) % 32 * 64 + (n.val - 256) / 32, h2 h⟩ : Fin 2048) = ⟨(n.val - 256) % 32 * 64 + (n.val - 256) / 32 % 64, by omega⟩ :=
      Fin.ext (by show (n.val - 256) % 32 * 64 + (n.val - 256) / 32 = (n.val - 256) % 32 * 64 + (n.val - 256) / 32 % 64; omega)
    rw [e]
    rfl

/-- The decays the loop enters with. -/
theorem e_a (c : Dev nD) (n : Fin 2304) (b : Fin 4) (w : Fin 5376) :
    (show S2304x4x5376.Idx → EReal from entryContents preI m c (Proc.devRef .tc main_v48_0)) (ix3 n b w)
      = da (args m c) b ⟨w.val / 336, by omega⟩ ⟨w.val % 336, by omega⟩ n.val := by
  obtain ⟨R, hR⟩ : ∃ R : EReal, R = da (args m c) b ⟨w.val / 336, by omega⟩ ⟨w.val % 336, by omega⟩ n.val := ⟨_, rfl⟩
  rw [← hR]
  simp only [entryContents, preI, hostOps0, hostOps0_1, hostOps0_2, afterL_cons, afterL_nil]
  after_results
  simp only [StableHlo.TRef.toBuf, StableHlo.TRef.ofBuf, cast_eq, id_eq]
  pointwise []
  rw [hR]
  clear hR R
  refine Eq.trans ?_ (da_w (args m c) b n.val w).symm
  refine (congrArg Ideal.exp (ref_log _ _)).trans ?_
  refine congrArg (fun s => Ideal.exp (logA ((args m c).lam w) s)) ?_
  refine congrArg (· + (args m c).ba w) (Finset.sum_congr rfl fun q _ => ?_)
  refine (mul_comm _ _).trans ?_
  exact congrArg₂ (· * ·) (ref_tok m c n b ⟨w.val / 336 * 336 + q.val, by omega⟩ (fun _ => by omega)) rfl

/-- The inputs the loop enters with. -/
theorem e_b (c : Dev nD) (n : Fin 2304) (b : Fin 4) (w : Fin 5376) :
    (show S2304x4x5376.Idx → EReal from entryContents preI m c (Proc.devRef .tc main_v48_1)) (ix3 n b w)
      = db (args m c) b ⟨w.val / 336, by omega⟩ ⟨w.val % 336, by omega⟩ n.val := by
  obtain ⟨R, hR⟩ : ∃ R : EReal, R = db (args m c) b ⟨w.val / 336, by omega⟩ ⟨w.val % 336, by omega⟩ n.val := ⟨_, rfl⟩
  rw [← hR]
  simp only [entryContents, preI, hostOps0, hostOps0_1, hostOps0_2, afterL_cons, afterL_nil]
  after_results
  simp only [StableHlo.TRef.toBuf, StableHlo.TRef.ofBuf, cast_eq, id_eq]
  pointwise []
  rw [hR]
  clear hR R
  refine Eq.trans ?_ (db_w (args m c) b n.val w).symm
  refine congrArg₂ (· * ·) ((ref_root _).trans (congrArg root ((ref_log _ _).trans ?_))) (congrArg₂ (· * ·) (congrArg sigm ?_) (ref_tok m c n b w (fun _ => by omega)))
  · refine congrArg (fun s => logA ((args m c).lam w) s) ?_
    refine congrArg (· + (args m c).ba w) (Finset.sum_congr rfl fun q _ => ?_)
    refine (mul_comm _ _).trans ?_
    exact congrArg₂ (· * ·) (ref_tok m c n b ⟨w.val / 336 * 336 + q.val, by omega⟩ (fun _ => by omega)) rfl
  · refine congrArg (· + (args m c).bx w) (Finset.sum_congr rfl fun q _ => ?_)
    refine (mul_comm _ _).trans ?_
    exact congrArg₂ (· * ·) (ref_tok m c n b ⟨w.val / 336 * 336 + q.val, by omega⟩ (fun _ => by omega)) rfl

/-- The state the loop enters with. -/
theorem e_h (c : Dev nD) (b : Fin 4) (w : Fin 5376) :
    (show S4x5376.Idx → EReal from entryContents preI m c (Proc.devRef .tc main_v48_3)) (ix2 b w) = 0 := by
  obtain ⟨R, hR⟩ : ∃ R : EReal, R = 0 := ⟨_, rfl⟩
  rw [← hR]
  simp only [entryContents, preI, hostOps0, hostOps0_1, hostOps0_2, afterL_cons, afterL_nil]
  after_results
  simp only [StableHlo.TRef.toBuf, StableHlo.TRef.ofBuf, cast_eq, id_eq]
  pointwise []
  exact hR.symm

end Cert.ReferenceIdeal.Loop
end
-- ==== Proof.RefOut.lean ====
/-
  The array the reference returns, read at an index.
-/
module

public import proofs.«01_k».proof.Proof.RefEntry

@[expose] public section

set_option maxRecDepth 16384
noncomputable section
open Idealize.ShloMosaic Idealize.ShloMosaic.TcCoe Idealize.SL.Sem Idealize.ShloMosaic.StableHlo
namespace Cert.ReferenceIdeal.Loop
open Cert.ReferenceIdeal Cert.ReferenceIdeal.Gen Cert.ReferenceIdeal.Value Cert.Rglru

/-- The padding value is zero. -/
theorem pad_zero : (FloatOps.sitofp FTy.f32 0#32 : Ideal .f32) = (0 : EReal) := by
  show (((0#32 : BitVec 32).toInt : ℝ) : EReal) = 0
  simp

/-- The returned array as a reading of the stacked rows. -/
theorem out_read (V0 : Valuation τ sig (Elt Ideal)) (p : Fin 128) (q : Fin 64) (k : Fin 16) (l : Fin 384) :
    (show S128x64x6144.Idx → EReal from out_main_v56 V0) (ix3 p q ⟨384 * k.val + l.val, by omega⟩)
      = if h : l.val < 336 then (show S2304x4x5376.Idx → EReal from V0 (Proc.devRef .tc main_v48_4)) (ix3 ⟨256 + (q.val * 32 + p.val % 32), by omega⟩ ⟨p.val / 32, by omega⟩ ⟨k.val * 336 + l.val, by omega⟩) else 0 := by
  unfold out_main_v56
  obtain ⟨Z, hZ⟩ : ∃ Z : S2304x4x5376.Idx → EReal, Z = V0 (Proc.devRef .tc main_v48_4) := ⟨_, rfl⟩
  rw [← hZ]
  obtain ⟨R, hR⟩ : ∃ R : EReal, R = (if h : l.val < 336 then Z (ix3 ⟨256 + (q.val * 32 + p.val % 32), by omega⟩ ⟨p.val / 32, by omega⟩ ⟨k.val * 336 + l.val, by omega⟩) else 0) := ⟨_, rfl⟩
  refine Eq.trans ?_ hR
  pointwise []
  rw [hR]
  clear hR R
  by_cases h : l.val < 336
  · refine (dif_pos h).trans (Eq.trans ?_ (dif_pos h).symm)
    rfl
  · refine (dif_neg h).trans (Eq.trans ?_ (dif_neg h).symm)
    exact pad_zero

variable (m : (ℓ : Loc nD τ sig) → Buf (Elt Ideal) ℓ)

/-- The returned array is the scan of the latent tokens. -/
theorem out_at (c : Dev nD) (p : Fin 128) (q : Fin 64) (k : Fin 16) (l : Fin 384) :
    (show S128x64x6144.Idx → EReal from out_main_v56 (W m c 2304)) (ix3 p q ⟨384 * k.val + l.val, by omega⟩) = result (args m c) p q k l := by
  refine (out_read (W m c 2304) p q k l).trans ?_
  unfold result
  by_cases h : l.val < 336
  · refine (dif_pos h).trans (Eq.trans ?_ (dif_pos h).symm)
    refine (stack_at m c (e_h m c) 2304 le_rfl ⟨256 + (q.val * 32 + p.val % 32), by omega⟩ ⟨p.val / 32, by omega⟩ ⟨k.val * 336 + l.val, by omega⟩ (by show 256 + (q.val * 32 + p.val % 32) < 2304; omega)).trans ?_
    have hk : (⟨(k.val * 336 + l.val) / 336, by omega⟩ : Fin 16) = k := Fin.ext (by show (k.val * 336 + l.val) / 336 = k.val; omega)
    have hl : (⟨(k.val * 336 + l.val) % 336, by omega⟩ : Fin 336) = ⟨l.val, h⟩ := Fin.ext (by show (k.val * 336 + l.val) % 336 = l.val; omega)
    have hn : 256 + (q.val * 32 + p.val % 32) + 1 = 256 + 32 * q.val + p.val % 32 + 1 := by omega
    refine Eq.trans ?_ (congrArg (scan _ _ 0) hn)
    refine scan_congr 0 _ (fun i hi => ?_) (fun i hi => ?_)
    · have hi' : i < 2304 := by omega
      refine (dif_pos hi').trans ((e_a m c ⟨i, hi'⟩ ⟨p.val / 32, by omega⟩ ⟨k.val * 336 + l.val, by omega⟩).trans ?_)
      exact congrArg₂ (fun x y => da (args m c) ⟨p.val / 32, by omega⟩ x y i) hk hl
    · have hi' : i < 2304 := by omega
      refine (dif_pos hi').trans ((e_b m c ⟨i, hi'⟩ ⟨p.val / 32, by omega⟩ ⟨k.val * 336 + l.val, by omega⟩).trans ?_)
      exact congrArg₂ (fun x y => db (args m c) ⟨p.val / 32, by omega⟩ x y i) hk hl
  · refine (dif_neg h).trans (Eq.trans ?_ (dif_neg h).symm)
    rfl

/-- The returned array as a function of its index. -/
theorem returned (c : Dev nD) : (show S128x64x6144.Idx → EReal from out_main_v56 (W m c 2304)) = fun j =>
    result (args m c) (j 0) (j 1) ⟨(j 2).val / 384, by have h : (j 2).val < 6144 := (j 2).isLt; omega⟩ ⟨(j 2).val % 384, by omega⟩ := by
  funext j
  have j2 : (j 2).val < 6144 := (j 2).isLt
  refine Eq.trans (congrArg _ ?_) (out_at m c (j 0) (j 1) ⟨(j 2).val / 384, by omega⟩ ⟨(j 2).val % 384, by omega⟩)
  funext a
  fin_cases a
  · rfl
  · rfl
  · exact Fin.ext (by show (j 2).val = 384 * ((j 2).val / 384) + (j 2).val % 384; omega)

end Cert.ReferenceIdeal.Loop
end
-- ==== Proof.Down.lean ====
/-
  The down projection of the feed-forward network: the kernel's array is the product of the activations and the weights.
-/
module

public import proofs.«01_k».proof.Proof.Gen.Kernel3Ideal.Value
public import proofs.«01_k».proof.Proof.Gen.Reference3Ideal.Run
public import Idealize.ShloMosaic.Lib.Pipeline.ValueKit
public import Idealize.ShloMosaic.Lib.Claim

@[expose] public section

set_option maxRecDepth 16384
noncomputable section
open Idealize.ShloMosaic Idealize.ShloMosaic.TcCoe Idealize.SL.Sem
namespace Cert.Kernel3Ideal.Mm
open Cert.Kernel3Ideal Cert.Kernel3Ideal.Gen
variable (m : (ℓ : Loc nD τ sig) → Buf (Elt Ideal) ℓ)

/-- What the body stores is the product of its two blocks. -/
theorem body_at (X : Vec Ideal S1024x11008 .bf16) (W : Vec Ideal S11008x512 .bf16) (y : S1024x512.Idx) :
    (out0_2 X W y : EReal) = ∑ k : Fin 11008, (X (ix2 (y 0) k) : EReal) * W (ix2 k (y 1)) := by
  frame_out
  pointwise [k0_pay1]

/-- The product the call returns. -/
def prod (c : Dev nD) : S9216x4096.Idx → Ideal .bf16 := fun j =>
  ∑ k : Fin 11008, (show S9216x11008.Idx → EReal from m ((c : Thread nD τ).loc main_arg0)) (ix2 (j 0) k)
    * (show S11008x4096.Idx → EReal from m ((c : Thread nD τ).loc main_arg1)) (ix2 k (j 1))

/-- Where the windows' blocks lie at a grid point. -/
theorem idx : ∀ t : Fin cfg0.N, win0_0.index t = ![t.val / 8, 0] ∧ win0_1.index t = ![0, t.val % 8] ∧ win0_2.index t = ![t.val / 8, t.val % 8] :=
  (by decide +kernel : ∀ t : Fin grid0.N, _)

/-- The cast activations. -/
theorem v_acts (c : Dev nD) (i : S9216x11008.Idx) :
    (V m c main_v0 : S9216x11008.Idx → Ideal .bf16) i = (show S9216x11008.Idx → EReal from m ((c : Thread nD τ).loc main_arg0)) i := by
  simp only [V, hostOps0, List.flatten_cons, List.flatten_nil, List.append_nil, List.cons_append, List.nil_append]
  after_results
  rfl

/-- The cast weights. -/
theorem v_weights (c : Dev nD) (i : S11008x4096.Idx) :
    (V m c main_v1 : S11008x4096.Idx → Ideal .bf16) i = (show S11008x4096.Idx → EReal from m ((c : Thread nD τ).loc main_arg1)) i := by
  simp only [V, hostOps0, List.flatten_cons, List.flatten_nil, List.append_nil, List.cons_append, List.nil_append]
  after_results
  rfl

/-- The rows of activations a grid point reads. -/
theorem acts (c : Dev nD) (t : Fin cfg0.N) (r : Fin 1024) (k : Fin 11008) (R : Fin 9216) (h : R.val = t.val / 8 * 1024 + r.val) :
    (iblk m c 0 t (ix2 r k) : EReal) = (show S9216x11008.Idx → EReal from m ((c : Thread nD τ).loc main_arg0)) (ix2 R k) := by
  refine Eq.trans ?_ (v_acts m c (ix2 R k))
  unfold iblk
  have key : ∀ Z : (S9216x11008.Idx → Ideal .bf16), ((cfg0.win 0).blk t).view.read (Elt Ideal) Z (ix2 r k) = Z (ix2 R k) := by
    intro Z
    blk_ext [idx t]
  exact key _

/-- The columns of weights a grid point reads. -/
theorem weights (c : Dev nD) (t : Fin cfg0.N) (k : Fin 11008) (n : Fin 512) (C : Fin 4096) (h : C.val = t.val % 8 * 512 + n.val) :
    (iblk m c 1 t (ix2 k n) : EReal) = (show S11008x4096.Idx → EReal from m ((c : Thread nD τ).loc main_arg1)) (ix2 k C) := by
  refine Eq.trans ?_ (v_weights m c (ix2 k C))
  unfold iblk
  have key : ∀ Z : (S11008x4096.Idx → Ideal .bf16), ((cfg0.win 1).blk t).view.read (Elt Ideal) Z (ix2 k n) = Z (ix2 k C) := by
    intro Z
    blk_ext [idx t]
  exact key _

/-- Where a stored entry lies in the array. -/
theorem place (t : Fin cfg0.N) (y : S1024x512.Idx) :
    ((((cfg0.win 2).blk t).view.emb y : S9216x4096.Idx) 0).val = t.val / 8 * 1024 + (y 0).val
    ∧ ((((cfg0.win 2).blk t).view.emb y : S9216x4096.Idx) 1).val = t.val % 8 * 512 + (y 1).val := by
  constructor
  all_goals
    blk_simp [idx t]
    try omega

/-- The array after the run is the product. -/
theorem final (c : Dev nD) : (dats m 0 c).arrAt 2 cfg0.N = prod m c := by
  refine (dats m 0 c).arrAt_eq_of_covers 2 (prod m c) (by decide +kernel) fun t hf y => ?_
  have he : (dats m 0 c).after 2 t = out0_2 (iblk m c 0 t) (iblk m c 1 t) := after0_2 m c t
  refine (congrFun he y).trans ((body_at _ _ y).trans ?_)
  obtain ⟨hr, hc⟩ := place t y
  refine Finset.sum_congr rfl fun k _ => ?_
  exact congrArg₂ (fun a b : EReal => a * b) (acts m c t _ k _ hr) (weights m c t k _ _ hc)

end Cert.Kernel3Ideal.Mm

namespace Cert.Reference3Ideal.Mm
open Cert.Reference3Ideal Cert.Reference3Ideal.Gen

/-- The reference's result at an index. -/
theorem returned (A : S9216x11008.Idx → Ideal .f32) (B : S11008x4096.Idx → Ideal .f32) (j : S9216x4096.Idx) :
    (truncf (F := Ideal) .bf16 (Host.dotGeneral dot_S9216x11008_S11008x4096_S9216x4096_1_0_0_1_n_n none A B) bitsLt_bf16_f32 j : EReal)
      = ∑ k : Fin 11008, (A (ix2 (j 0) k) : EReal) * B (ix2 k (j 1)) := by
  pointwise []

end Cert.Reference3Ideal.Mm
end
-- ==== Proof.InXbc.lean ====
/-
  The input projection's columns of the first mixer: the kernel's array is those columns of the product.
-/
module

public import proofs.«01_k».proof.Proof.Gen.Kernel4Ideal.Value
public import proofs.«01_k».proof.Proof.Gen.Reference4Ideal.Run
public import Idealize.ShloMosaic.Lib.Pipeline.ValueKit
public import Idealize.ShloMosaic.Lib.Claim

@[expose] public section

set_option maxRecDepth 16384
noncomputable section
open Idealize.ShloMosaic Idealize.ShloMosaic.TcCoe Idealize.SL.Sem
namespace Cert.Kernel4Ideal.Mm
open Cert.Kernel4Ideal Cert.Kernel4Ideal.Gen
variable (m : (ℓ : Loc nD τ sig) → Buf (Elt Ideal) ℓ)

/-- What the body stores is the product of its two blocks. -/
theorem body_at (c : Dev nD) (t : Fin cfg0.N) (X : Vec Ideal S2304x4096 .bf16) (W : Vec Ideal S1x4096x512 .f32) (y : S2304x512.Idx) :
    (out0_A_2 c (grid0.coords t) (ms0_0 t) (hs0_0 t) (ms0_1 t) (hs0_1 t) (ms0_2 t) (hs0_2 t) X W y : EReal) = ∑ k : Fin 4096, (X (ix2 (y 0) k) : EReal) * W (ix3 0 k (y 1)) := by
  frame_out
  pointwise [k0_pay1]

/-- The columns of the product the call returns. -/
def prod (c : Dev nD) : S9216x10240.Idx → Ideal .bf16 := fun j =>
  ∑ k : Fin 4096, (show S9216x4096.Idx → EReal from m ((c : Thread nD τ).loc main_arg0)) (ix2 (j 0) k)
    * (show S1x4096x37632.Idx → EReal from m ((c : Thread nD τ).loc main_arg1)) (ix3 0 k ⟨8192 + (j 1).val, by have h : (j 1).val < 10240 := (j 1).isLt; omega⟩)

/-- Where the windows' blocks lie at a grid point. -/
theorem idx : ∀ t : Fin cfg0.N, win0_0.index t = ![t.val / 20, 0] ∧ win0_1.index t = ![0, 0, 16 + t.val % 20] ∧ win0_2.index t = ![t.val / 20, t.val % 20] :=
  (by decide +kernel : ∀ t : Fin grid0.N, _)

/-- The cast tokens. -/
theorem v_toks (c : Dev nD) (i : S9216x4096.Idx) :
    (V m c main_v0 : S9216x4096.Idx → Ideal .bf16) i = (show S9216x4096.Idx → EReal from m ((c : Thread nD τ).loc main_arg0)) i := by
  simp only [V, hostOps0, List.flatten_cons, List.flatten_nil, List.append_nil, List.cons_append, List.nil_append]
  after_results
  rfl

/-- The rows of tokens a grid point reads. -/
theorem toks (c : Dev nD) (t : Fin cfg0.N) (r : Fin 2304) (k : Fin 4096) (R : Fin 9216) (h : R.val = t.val / 20 * 2304 + r.val) :
    (iblk m c 0 t (ix2 r k) : EReal) = (show S9216x4096.Idx → EReal from m ((c : Thread nD τ).loc main_arg0)) (ix2 R k) := by
  refine Eq.trans ?_ (v_toks m c (ix2 R k))
  unfold iblk
  have key : ∀ Z : (S9216x4096.Idx → Ideal .bf16), ((cfg0.win 0).blk t).view.read (Elt Ideal) Z (ix2 r k) = Z (ix2 R k) := by
    intro Z
    blk_ext [idx t]
  exact key _

/-- The columns of weights a grid point reads. -/
theorem weights (c : Dev nD) (t : Fin cfg0.N) (k : Fin 4096) (n : Fin 512) (C : Fin 37632) (h : C.val = 8192 + (t.val % 20 * 512 + n.val)) :
    (X0_1 m c t (ix3 0 k n) : EReal) = (show S1x4096x37632.Idx → EReal from m ((c : Thread nD τ).loc main_arg1)) (ix3 0 k C) := by
  refine Eq.trans ?_ (congrFun (V_main_arg1 m c) (ix3 0 k C))
  unfold X0_1 Pipeline.Window.fill
  refine (dif_pos (moved0_1 t _)).trans ?_
  unfold iblk
  have key : ∀ Z : (S1x4096x37632.Idx → Ideal .f32), ((cfg0.win 1).blk t).view.read (Elt Ideal) Z (fun a => ⟨((ix3 0 k n : (cfg0.win 1).block.Idx) a).val, ((cfg0.win 1).moved_iff _ _).mp (moved0_1 t _) a⟩) = Z (ix3 0 k C) := by
    intro Z
    blk_ext [idx t]
  exact key _

/-- Where a stored entry lies in the array. -/
theorem place (t : Fin cfg0.N) (y : S2304x512.Idx) :
    ((((cfg0.win 2).blk t).view.emb y : S9216x10240.Idx) 0).val = t.val / 20 * 2304 + (y 0).val
    ∧ ((((cfg0.win 2).blk t).view.emb y : S9216x10240.Idx) 1).val = t.val % 20 * 512 + (y 1).val := by
  constructor
  all_goals
    blk_simp [idx t]
    try omega

/-- The array after the run is the columns of the product. -/
theorem final (c : Dev nD) : (dats m 0 c).arrAt 2 cfg0.N = prod m c := by
  refine (dats m 0 c).arrAt_eq_of_covers 2 (prod m c) (by decide +kernel) fun t hf y => ?_
  have he : (dats m 0 c).after 2 t = outsAt0 m c t := after0_2 m c t
  refine (congrFun he y).trans ?_
  unfold outsAt0
  refine (body_at c t (iblk m c 0 t) (X0_1 m c t) y).trans ?_
  unfold prod
  obtain ⟨hr, hc⟩ := place t y
  refine Finset.sum_congr rfl fun k _ => ?_
  exact congrArg₂ (fun a b : EReal => a * b) (toks m c t _ k _ hr) (weights m c t k _ _ (congrArg (fun n => 8192 + n) hc))

end Cert.Kernel4Ideal.Mm

namespace Cert.Reference4Ideal.Mm
open Cert.Reference4Ideal Cert.Reference4Ideal.Gen

/-- The reference's result at an index. -/
theorem returned (A : S9216x4096.Idx → Ideal .f32) (B : S1x4096x37632.Idx → Ideal .f32) (j : S9216x10240.Idx) :
    (truncf (F := Ideal) .bf16 (extractStridedSlice S9216x10240 ![0, 8192] (Host.dotGeneral dot_S9216x4096_S4096x37632_S9216x37632_1_0_0_1_n_n none A (shapeCast _ B shapeCasts_S1x4096x37632_S4096x37632)) slices_S9216x37632_S9216x10240_0_8192) bitsLt_bf16_f32 j : EReal)
      = ∑ k : Fin 4096, (A (ix2 (j 0) k) : EReal) * B (ix3 0 k ⟨8192 + (j 1).val, by have h : (j 1).val < 10240 := (j 1).isLt; omega⟩) := by
  pointwise []

end Cert.Reference4Ideal.Mm
end
-- ==== Proof.InZ.lean ====
/-
  The input projection's first columns, for the latent tokens: the kernel's array is those columns of the product.
-/
module

public import proofs.«01_k».proof.Proof.Gen.Kernel5Ideal.Value
public import proofs.«01_k».proof.Proof.Gen.Reference5Ideal.Run
public import Idealize.ShloMosaic.Lib.Pipeline.ValueKit
public import Idealize.ShloMosaic.Lib.Claim

@[expose] public section

set_option maxRecDepth 16384
noncomputable section
open Idealize.ShloMosaic Idealize.ShloMosaic.TcCoe Idealize.SL.Sem
namespace Cert.Kernel5Ideal.Mm
open Cert.Kernel5Ideal Cert.Kernel5Ideal.Gen
variable (m : (ℓ : Loc nD τ sig) → Buf (Elt Ideal) ℓ)

/-- What the body stores is the product of its two blocks. -/
theorem body_at (c : Dev nD) (t : Fin cfg0.N) (X : Vec Ideal S2048x4096 .bf16) (W : Vec Ideal S1x4096x512 .f32) (y : S2048x512.Idx) :
    (out0_A_2 c (grid0.coords t) (ms0_0 t) (hs0_0 t) (ms0_1 t) (hs0_1 t) (ms0_2 t) (hs0_2 t) X W y : EReal) = ∑ k : Fin 4096, (X (ix2 (y 0) k) : EReal) * W (ix3 0 k (y 1)) := by
  frame_out
  pointwise [k0_pay1]

/-- The columns of the product the call returns. -/
def prod (c : Dev nD) : S8192x8192.Idx → Ideal .bf16 := fun j =>
  ∑ k : Fin 4096, (show S9216x4096.Idx → EReal from m ((c : Thread nD τ).loc main_arg0)) (ix2 ⟨(j 0).val, by have h : (j 0).val < 8192 := (j 0).isLt; omega⟩ k)
    * (show S1x4096x37632.Idx → EReal from m ((c : Thread nD τ).loc main_arg1)) (ix3 0 k ⟨(j 1).val, by have h : (j 1).val < 8192 := (j 1).isLt; omega⟩)

/-- Where the windows' blocks lie at a grid point. -/
theorem idx : ∀ t : Fin cfg0.N, win0_0.index t = ![t.val / 16, 0] ∧ win0_1.index t = ![0, 0, t.val % 16] ∧ win0_2.index t = ![t.val / 16, t.val % 16] :=
  (by decide +kernel : ∀ t : Fin grid0.N, _)

/-- The cast tokens. -/
theorem v_toks (c : Dev nD) (i : S9216x4096.Idx) :
    (V m c main_v0 : S9216x4096.Idx → Ideal .bf16) i = (show S9216x4096.Idx → EReal from m ((c : Thread nD τ).loc main_arg0)) i := by
  simp only [V, hostOps0, List.flatten_cons, List.flatten_nil, List.append_nil, List.cons_append, List.nil_append]
  after_results
  rfl

/-- The rows of tokens a grid point reads. -/
theorem toks (c : Dev nD) (t : Fin cfg0.N) (r : Fin 2048) (k : Fin 4096) (R : Fin 9216) (h : R.val = t.val / 16 * 2048 + r.val) :
    (X0_0 m c t (ix2 r k) : EReal) = (show S9216x4096.Idx → EReal from m ((c : Thread nD τ).loc main_arg0)) (ix2 R k) := by
  refine Eq.trans ?_ (v_toks m c (ix2 R k))
  unfold X0_0 Pipeline.Window.fill
  refine (dif_pos (moved0_0 t _)).trans ?_
  unfold iblk
  have key : ∀ Z : (S9216x4096.Idx → Ideal .bf16), ((cfg0.win 0).blk t).view.read (Elt Ideal) Z (fun a => ⟨((ix2 r k : (cfg0.win 0).block.Idx) a).val, ((cfg0.win 0).moved_iff _ _).mp (moved0_0 t _) a⟩) = Z (ix2 R k) := by
    intro Z
    blk_ext [idx t]
  exact key _

/-- The columns of weights a grid point reads. -/
theorem weights (c : Dev nD) (t : Fin cfg0.N) (k : Fin 4096) (n : Fin 512) (C : Fin 37632) (h : C.val = (t.val % 16 * 512 + n.val)) :
    (X0_1 m c t (ix3 0 k n) : EReal) = (show S1x4096x37632.Idx → EReal from m ((c : Thread nD τ).loc main_arg1)) (ix3 0 k C) := by
  refine Eq.trans ?_ (congrFun (V_main_arg1 m c) (ix3 0 k C))
  unfold X0_1 Pipeline.Window.fill
  refine (dif_pos (moved0_1 t _)).trans ?_
  unfold iblk
  have key : ∀ Z : (S1x4096x37632.Idx → Ideal .f32), ((cfg0.win 1).blk t).view.read (Elt Ideal) Z (fun a => ⟨((ix3 0 k n : (cfg0.win 1).block.Idx) a).val, ((cfg0.win 1).moved_iff _ _).mp (moved0_1 t _) a⟩) = Z (ix3 0 k C) := by
    intro Z
    blk_ext [idx t]
  exact key _

/-- Where a stored entry lies in the array. -/
theorem place (t : Fin cfg0.N) (y : S2048x512.Idx) :
    ((((cfg0.win 2).blk t).view.emb y : S8192x8192.Idx) 0).val = t.val / 16 * 2048 + (y 0).val
    ∧ ((((cfg0.win 2).blk t).view.emb y : S8192x8192.Idx) 1).val = t.val % 16 * 512 + (y 1).val := by
  constructor
  all_goals
    blk_simp [idx t]
    try omega

/-- The array after the run is the columns of the product. -/
theorem final (c : Dev nD) : (dats m 0 c).arrAt 2 cfg0.N = prod m c := by
  refine (dats m 0 c).arrAt_eq_of_covers 2 (prod m c) (by decide +kernel) fun t hf y => ?_
  have he : (dats m 0 c).after 2 t = outsAt0 m c t := after0_2 m c t
  refine (congrFun he y).trans ?_
  unfold outsAt0
  refine (body_at c t (X0_0 m c t) (X0_1 m c t) y).trans ?_
  unfold prod
  obtain ⟨hr, hc⟩ := place t y
  refine Finset.sum_congr rfl fun k _ => ?_
  exact congrArg₂ (fun a b : EReal => a * b) (toks m c t _ k _ hr) (weights m c t k _ _ hc)

end Cert.Kernel5Ideal.Mm

namespace Cert.Reference5Ideal.Mm
open Cert.Reference5Ideal Cert.Reference5Ideal.Gen

/-- The reference's result at an index. -/
theorem returned (A : S9216x4096.Idx → Ideal .f32) (B : S1x4096x37632.Idx → Ideal .f32) (j : S8192x8192.Idx) :
    (truncf (F := Ideal) .bf16 (extractStridedSlice S8192x8192 ![0, 0] (Host.dotGeneral dot_S8192x4096_S4096x37632_S8192x37632_1_0_0_1_n_n none (extractStridedSlice S8192x4096 ![0, 0] A slices_S9216x4096_S8192x4096_0_0) (shapeCast _ B shapeCasts_S1x4096x37632_S4096x37632)) slices_S8192x37632_S8192x8192_0_0) bitsLt_bf16_f32 j : EReal)
      = ∑ k : Fin 4096, (A (ix2 ⟨(j 0).val, by have h : (j 0).val < 8192 := (j 0).isLt; omega⟩ k) : EReal) * B (ix3 0 k ⟨(j 1).val, by have h : (j 1).val < 8192 := (j 1).isLt; omega⟩) := by
  pointwise []

end Cert.Reference5Ideal.Mm
end
-- ==== Proof.Gate.lean ====
/-
  Facts the projections share: the gates' literals, and a sum over lanes padded block by block.
-/
module

public import proofs.«01_k».proof.Proof.Spec

@[expose] public section

noncomputable section
open Idealize.ShloMosaic
namespace Cert.Rglru

/-- The literal one half. -/
theorem half_bits : Ideal.ofBits FTy.f32 1056964608#32 = ((1 / 2 : ℝ) : EReal) := by
  simp [Ideal.ofBits, Ideal.ieee]; norm_num [zpow_neg]; rw [← EReal.coe_mul]; norm_num

/-- The literal one. -/
theorem one_bits : Ideal.ofBits FTy.f32 1065353216#32 = 1 := by
  simp [Ideal.ofBits, Ideal.ieee]; norm_num [zpow_neg]; rw [← EReal.coe_mul]; norm_num

/-- A sum over sixteen blocks of lanes, each padded with zeros, is the sum over the lanes. -/
theorem sum_blocks (f : Fin 6144 → EReal) (g : Fin 5376 → EReal)
    (h : ∀ (b : Fin 16) (l : Fin 384), f ⟨384 * b.val + l.val, by omega⟩ = if h : l.val < 336 then g ⟨b.val * 336 + l.val, by omega⟩ else 0) :
    ∑ k : Fin 6144, f k = ∑ k : Fin 5376, g k := by
  have e1 : ∑ k : Fin 6144, f k = ∑ b : Fin 16, ∑ l : Fin 384, f ⟨384 * b.val + l.val, by omega⟩ := by
    rw [← Fintype.sum_prod_type', ← (finProdFinEquiv (m := 16) (n := 384)).sum_comp]
    exact Finset.sum_congr rfl fun x _ => congrArg f (Fin.ext (by show x.2.val + 384 * x.1.val = 384 * x.1.val + x.2.val; omega))
  have e2 : ∑ k : Fin 5376, g k = ∑ b : Fin 16, ∑ l : Fin 336, g ⟨b.val * 336 + l.val, by omega⟩ := by
    rw [← Fintype.sum_prod_type', ← (finProdFinEquiv (m := 16) (n := 336)).sum_comp]
    exact Finset.sum_congr rfl fun x _ => congrArg g (Fin.ext (by show x.2.val + 336 * x.1.val = x.1.val * 336 + x.2.val; omega))
  rw [e1, e2]
  refine Finset.sum_congr rfl fun b _ => ?_
  rw [sum_pad _ fun q hq => (h b q).trans (dif_neg (by omega))]
  exact Finset.sum_congr rfl fun l _ => (h b ⟨l.val, by omega⟩).trans (dif_pos l.isLt)

/-- The padding value is zero. -/
theorem pad_zero (φ : FTy) : (FloatOps.sitofp φ 0#32 : Ideal φ) = (0 : EReal) := by
  show (((0#32 : BitVec 32).toInt : ℝ) : EReal) = 0
  simp

end Cert.Rglru
end
-- ==== Proof.SsdOut.lean ====
/-
  The output projection of the first mixer: the kernel's array is the product of the tokens and the weights, gated.
-/
module

public import proofs.«01_k».proof.Proof.Gen.Kernel6Ideal.Value
public import proofs.«01_k».proof.Proof.Gen.Reference6Ideal.Run
public import Idealize.ShloMosaic.Lib.Pipeline.ValueKit
public import Idealize.ShloMosaic.Lib.Claim
public import proofs.«01_k».proof.Proof.Gate

@[expose] public section

set_option maxRecDepth 16384
noncomputable section
open Idealize.ShloMosaic Idealize.ShloMosaic.TcCoe Idealize.SL.Sem
namespace Cert.Kernel6Ideal.Mm
open Cert.Kernel6Ideal Cert.Kernel6Ideal.Gen Cert.Rglru
variable (m : (ℓ : Loc nD τ sig) → Buf (Elt Ideal) ℓ)

/-- What the body stores is the gated product of its blocks. -/
theorem body_at (X : Vec Ideal S1024x8192 .bf16) (W : Vec Ideal S8192x512 .bf16) (G : Vec Ideal S1024x512 .bf16) (y : S1024x512.Idx) :
    (out0_3 X W G y : EReal) = sigm (G (ix2 (y 0) (y 1)) : EReal) * ∑ k : Fin 8192, (X (ix2 (y 0) k) : EReal) * W (ix2 k (y 1)) := by
  frame_out
  pointwise [k0_pay1]
  simp only [half_bits, half_tanh]

/-- The gated product the call returns. -/
def prod (c : Dev nD) : S8192x4096.Idx → Ideal .f32 := fun j =>
  sigm ((show S8192x8192.Idx → EReal from m ((c : Thread nD τ).loc main_arg2)) (ix2 (j 0) ⟨(j 1).val, by have h : (j 1).val < 4096 := (j 1).isLt; omega⟩))
    * ∑ k : Fin 8192, (show S8192x8192.Idx → EReal from m ((c : Thread nD τ).loc main_arg0)) (ix2 (j 0) k)
      * (show S8192x4096.Idx → EReal from m ((c : Thread nD τ).loc main_arg1)) (ix2 k (j 1))

/-- Where the windows' blocks lie at a grid point. -/
theorem idx : ∀ t : Fin cfg0.N, win0_0.index t = ![t.val / 8, 0] ∧ win0_1.index t = ![0, t.val % 8] ∧ win0_2.index t = ![t.val / 8, t.val % 8] ∧ win0_3.index t = ![t.val / 8, t.val % 8] :=
  (by decide +kernel : ∀ t : Fin grid0.N, _)

/-- The cast tokens. -/
theorem v_toks (c : Dev nD) (i : S8192x8192.Idx) :
    (V m c main_v0 : S8192x8192.Idx → Ideal .bf16) i = (show S8192x8192.Idx → EReal from m ((c : Thread nD τ).loc main_arg0)) i := by
  simp only [V, hostOps0, List.flatten_cons, List.flatten_nil, List.append_nil, List.cons_append, List.nil_append]
  after_results
  rfl

/-- The cast weights. -/
theorem v_weights (c : Dev nD) (i : S8192x4096.Idx) :
    (V m c main_v1 : S8192x4096.Idx → Ideal .bf16) i = (show S8192x4096.Idx → EReal from m ((c : Thread nD τ).loc main_arg1)) i := by
  simp only [V, hostOps0, List.flatten_cons, List.flatten_nil, List.append_nil, List.cons_append, List.nil_append]
  after_results
  rfl

/-- The rows of tokens a grid point reads. -/
theorem toks (c : Dev nD) (t : Fin cfg0.N) (r : Fin 1024) (k : Fin 8192) (R : Fin 8192) (h : R.val = t.val / 8 * 1024 + r.val) :
    (iblk m c 0 t (ix2 r k) : EReal) = (show S8192x8192.Idx → EReal from m ((c : Thread nD τ).loc main_arg0)) (ix2 R k) := by
  refine Eq.trans ?_ (v_toks m c (ix2 R k))
  unfold iblk
  have key : ∀ Z : (S8192x8192.Idx → Ideal .bf16), ((cfg0.win 0).blk t).view.read (Elt Ideal) Z (ix2 r k) = Z (ix2 R k) := by
    intro Z
    blk_ext [idx t]
  exact key _

/-- The columns of weights a grid point reads. -/
theorem weights (c : Dev nD) (t : Fin cfg0.N) (k : Fin 8192) (n : Fin 512) (C : Fin 4096) (h : C.val = t.val % 8 * 512 + n.val) :
    (iblk m c 1 t (ix2 k n) : EReal) = (show S8192x4096.Idx → EReal from m ((c : Thread nD τ).loc main_arg1)) (ix2 k C) := by
  refine Eq.trans ?_ (v_weights m c (ix2 k C))
  unfold iblk
  have key : ∀ Z : (S8192x4096.Idx → Ideal .bf16), ((cfg0.win 1).blk t).view.read (Elt Ideal) Z (ix2 k n) = Z (ix2 k C) := by
    intro Z
    blk_ext [idx t]
  exact key _

/-- The cast gates. -/
theorem v_gates (c : Dev nD) (i : S8192x8192.Idx) :
    (V m c main_v2 : S8192x8192.Idx → Ideal .bf16) i = (show S8192x8192.Idx → EReal from m ((c : Thread nD τ).loc main_arg2)) i := by
  simp only [V, hostOps0, List.flatten_cons, List.flatten_nil, List.append_nil, List.cons_append, List.nil_append]
  after_results
  rfl

/-- The gates a grid point reads. -/
theorem gates (c : Dev nD) (t : Fin cfg0.N) (r : Fin 1024) (n : Fin 512) (R : Fin 8192) (C : Fin 8192) (hr : R.val = t.val / 8 * 1024 + r.val) (h : C.val = t.val % 8 * 512 + n.val) :
    (iblk m c 2 t (ix2 r n) : EReal) = (show S8192x8192.Idx → EReal from m ((c : Thread nD τ).loc main_arg2)) (ix2 R C) := by
  refine Eq.trans ?_ (v_gates m c (ix2 R C))
  unfold iblk
  have key : ∀ Z : (S8192x8192.Idx → Ideal .bf16), ((cfg0.win 2).blk t).view.read (Elt Ideal) Z (ix2 r n) = Z (ix2 R C) := by
    intro Z
    blk_ext [idx t]
  exact key _

/-- Where a stored entry lies in the array. -/
theorem place (t : Fin cfg0.N) (y : S1024x512.Idx) :
    ((((cfg0.win 3).blk t).view.emb y : S8192x4096.Idx) 0).val = t.val / 8 * 1024 + (y 0).val
    ∧ ((((cfg0.win 3).blk t).view.emb y : S8192x4096.Idx) 1).val = t.val % 8 * 512 + (y 1).val := by
  constructor
  all_goals
    blk_simp [idx t]
    try omega

/-- The array after the run is the gated product. -/
theorem final (c : Dev nD) : (dats m 0 c).arrAt 3 cfg0.N = prod m c := by
  refine (dats m 0 c).arrAt_eq_of_covers 3 (prod m c) (by decide +kernel) fun t hf y => ?_
  have he : (dats m 0 c).after 3 t = out0_3 (iblk m c 0 t) (iblk m c 1 t) (iblk m c 2 t) := after0_3 m c t
  refine (congrFun he y).trans ((body_at _ _ _ y).trans ?_)
  unfold prod
  obtain ⟨hr, hc⟩ := place t y
  refine congrArg₂ (fun a b : EReal => sigm a * b) (gates m c t _ _ _ _ hr hc) ?_
  refine Finset.sum_congr rfl fun k _ => ?_
  exact congrArg₂ (fun a b : EReal => a * b) (toks m c t _ k _ hr) (weights m c t k _ _ hc)

end Cert.Kernel6Ideal.Mm

namespace Cert.Reference6Ideal.Mm
open Cert.Reference6Ideal Cert.Reference6Ideal.Gen Cert.Rglru

/-- The reference's result at an index. -/
theorem returned (A : S8192x8192.Idx → Ideal .f32) (B : S8192x4096.Idx → Ideal .f32) (G : S8192x8192.Idx → Ideal .f32) (j : S8192x4096.Idx) :
    (mulf (F := Ideal) (extractStridedSlice S8192x4096 ![0, 0] (Host.divf (broadcastInDim S8192x8192 ![] bcast_S_S8192x8192 (constant S_ .f32 0x3F800000#32)) (addf (broadcastInDim S8192x8192 ![] bcast_S_S8192x8192 (constant S_ .f32 0x3F800000#32)) (Host.exp (Host.negf G)))) slices_S8192x8192_S8192x4096_0_0) (Host.dotGeneral dot_S8192x8192_S8192x4096_S8192x4096_1_0_0_1_n_n none A B) j : EReal)
      = sigm (G (ix2 (j 0) ⟨(j 1).val, by have h : (j 1).val < 4096 := (j 1).isLt; omega⟩) : EReal) * ∑ k : Fin 8192, (A (ix2 (j 0) k) : EReal) * B (ix2 k (j 1)) := by
  pointwise []
  simp only [one_bits, sigm]

end Cert.Reference6Ideal.Mm
end
-- ==== Proof.RgOut.lean ====
/-
  The output projection of the second mixer: the kernel's array is the product of the tokens and the weights, gated, added to the first mixer's.
-/
module

public import proofs.«01_k».proof.Proof.Gen.Kernel7Ideal.Value
public import proofs.«01_k».proof.Proof.Gen.Reference7Ideal.Run
public import Idealize.ShloMosaic.Lib.Pipeline.ValueKit
public import Idealize.ShloMosaic.Lib.Claim
public import proofs.«01_k».proof.Proof.Gate

@[expose] public section

set_option maxRecDepth 16384
noncomputable section
open Idealize.ShloMosaic Idealize.ShloMosaic.TcCoe Idealize.SL.Sem
namespace Cert.Kernel7Ideal.Mm
open Cert.Kernel7Ideal Cert.Kernel7Ideal.Gen Cert.Rglru
variable (m : (ℓ : Loc nD τ sig) → Buf (Elt Ideal) ℓ)

/-- What the body stores is the gated product of its blocks added to the first mixer's. -/
theorem body_at (X : Vec Ideal S1024x6144 .bf16) (W : Vec Ideal S6144x512 .bf16) (G : Vec Ideal S1024x512 .bf16) (P : Vec Ideal S1024x512 .f32) (y : S1024x512.Idx) :
    (out0_4 X W G P y : EReal) = (P (ix2 (y 0) (y 1)) : EReal) + sigm (G (ix2 (y 0) (y 1)) : EReal) * ∑ k : Fin 6144, (X (ix2 (y 0) k) : EReal) * W (ix2 k (y 1)) := by
  frame_out
  pointwise [k0_pay1]
  simp only [half_bits, half_tanh]

/-- The sum the call returns. -/
def prod (c : Dev nD) : S8192x4096.Idx → Ideal .bf16 := fun j =>
  (show S8192x4096.Idx → EReal from m ((c : Thread nD τ).loc main_arg3)) (ix2 (j 0) (j 1))
  + sigm ((show S8192x8192.Idx → EReal from m ((c : Thread nD τ).loc main_arg2)) (ix2 (j 0) ⟨4096 + (j 1).val, by have h : (j 1).val < 4096 := (j 1).isLt; omega⟩))
    * ∑ k : Fin 5376, (show S8192x5376.Idx → EReal from m ((c : Thread nD τ).loc main_arg0)) (ix2 (j 0) k)
      * (show S5376x4096.Idx → EReal from m ((c : Thread nD τ).loc main_arg1)) (ix2 k (j 1))

/-- Where the windows' blocks lie at a grid point. -/
theorem idx : ∀ t : Fin cfg0.N, win0_0.index t = ![t.val / 8, 0] ∧ win0_1.index t = ![0, t.val % 8] ∧ win0_2.index t = ![t.val / 8, 8 + t.val % 8] ∧ win0_3.index t = ![t.val / 8, t.val % 8]
    ∧ win0_4.index t = ![t.val / 8, t.val % 8] :=
  (by decide +kernel : ∀ t : Fin grid0.N, _)

/-- The padded tokens. -/
theorem v_toks (c : Dev nD) (r : Fin 8192) (k : Fin 16) (l : Fin 384) :
    (V m c main_v3 : S8192x6144.Idx → Ideal .bf16) (ix2 r ⟨384 * k.val + l.val, by omega⟩)
      = if h : l.val < 336 then (show S8192x5376.Idx → EReal from m ((c : Thread nD τ).loc main_arg0)) (ix2 r ⟨k.val * 336 + l.val, by omega⟩) else (0 : EReal) := by
  obtain ⟨R, hR⟩ : ∃ R : EReal, R = (if h : l.val < 336 then (show S8192x5376.Idx → EReal from m ((c : Thread nD τ).loc main_arg0)) (ix2 r ⟨k.val * 336 + l.val, by omega⟩) else (0 : EReal)) := ⟨_, rfl⟩
  rw [← hR]
  simp only [V, hostOps0, hostOps0_1, hostOps0_2, hostOps0_3, hostOps0_4, List.flatten_cons, List.flatten_nil, List.append_nil, List.cons_append, List.nil_append]
  after_results
  simp only [StableHlo.TRef.toBuf, StableHlo.TRef.ofBuf, cast_eq]
  pointwise []
  rw [hR]
  clear hR
  have e1 : (384 * k.val + l.val) / 384 = k.val := by omega
  have e2 : (384 * k.val + l.val) % 384 = l.val := by omega
  by_cases h : l.val < 336
  · refine (dif_pos ⟨by omega, by omega⟩).trans ?_
    refine Eq.trans ?_ (dif_pos h).symm
    exact congrArg (fun n : Fin 5376 => (show S8192x5376.Idx → EReal from m ((c : Thread nD τ).loc main_arg0)) (ix2 r n)) (Fin.ext (by show (384 * k.val + l.val) / 384 * 336 + (384 * k.val + l.val) % 384 = k.val * 336 + l.val; rw [e1, e2]))
  · refine (dif_neg (fun g => h (by omega))).trans ?_
    refine Eq.trans ?_ (dif_neg h).symm
    exact pad_zero _

/-- The padded weights. -/
theorem v_weights (c : Dev nD) (n : Fin 4096) (k : Fin 16) (l : Fin 384) :
    (V m c main_v7 : S6144x4096.Idx → Ideal .bf16) (ix2 ⟨384 * k.val + l.val, by omega⟩ n)
      = if h : l.val < 336 then (show S5376x4096.Idx → EReal from m ((c : Thread nD τ).loc main_arg1)) (ix2 ⟨k.val * 336 + l.val, by omega⟩ n) else (0 : EReal) := by
  obtain ⟨R, hR⟩ : ∃ R : EReal, R = (if h : l.val < 336 then (show S5376x4096.Idx → EReal from m ((c : Thread nD τ).loc main_arg1)) (ix2 ⟨k.val * 336 + l.val, by omega⟩ n) else (0 : EReal)) := ⟨_, rfl⟩
  rw [← hR]
  simp only [V, hostOps0, hostOps0_1, hostOps0_2, hostOps0_3, hostOps0_4, List.flatten_cons, List.flatten_nil, List.append_nil, List.cons_append, List.nil_append]
  after_results
  simp only [StableHlo.TRef.toBuf, StableHlo.TRef.ofBuf, cast_eq]
  pointwise []
  rw [hR]
  clear hR
  by_cases h : l.val < 336
  · refine (dif_pos h).trans ?_
    refine Eq.trans ?_ (dif_pos h).symm
    rfl
  · refine (dif_neg h).trans ?_
    refine Eq.trans ?_ (dif_neg h).symm
    exact pad_zero _

/-- The rows of padded tokens a grid point reads. -/
theorem toks (c : Dev nD) (t : Fin cfg0.N) (r : Fin 1024) (k : Fin 6144) (R : Fin 8192) (h : R.val = t.val / 8 * 1024 + r.val) :
    (iblk m c 0 t (ix2 r k) : EReal) = (V m c main_v3 : S8192x6144.Idx → Ideal .bf16) (ix2 R k) := by
  unfold iblk
  have key : ∀ Z : (S8192x6144.Idx → Ideal .bf16), ((cfg0.win 0).blk t).view.read (Elt Ideal) Z (ix2 r k) = Z (ix2 R k) := by
    intro Z
    blk_ext [idx t]
  exact key _

/-- The columns of padded weights a grid point reads. -/
theorem weights (c : Dev nD) (t : Fin cfg0.N) (k : Fin 6144) (n : Fin 512) (C : Fin 4096) (h : C.val = t.val % 8 * 512 + n.val) :
    (iblk m c 1 t (ix2 k n) : EReal) = (V m c main_v7 : S6144x4096.Idx → Ideal .bf16) (ix2 k C) := by
  unfold iblk
  have key : ∀ Z : (S6144x4096.Idx → Ideal .bf16), ((cfg0.win 1).blk t).view.read (Elt Ideal) Z (ix2 k n) = Z (ix2 k C) := by
    intro Z
    blk_ext [idx t]
  exact key _

/-- The cast gates. -/
theorem v_gates (c : Dev nD) (i : S8192x8192.Idx) :
    (V m c main_v8 : S8192x8192.Idx → Ideal .bf16) i = (show S8192x8192.Idx → EReal from m ((c : Thread nD τ).loc main_arg2)) i := by
  simp only [V, hostOps0, hostOps0_1, hostOps0_2, hostOps0_3, hostOps0_4, List.flatten_cons, List.flatten_nil, List.append_nil, List.cons_append, List.nil_append]
  after_results
  rfl

/-- The gates a grid point reads. -/
theorem gates (c : Dev nD) (t : Fin cfg0.N) (r : Fin 1024) (n : Fin 512) (R : Fin 8192) (C : Fin 8192) (hr : R.val = t.val / 8 * 1024 + r.val) (h : C.val = 4096 + (t.val % 8 * 512 + n.val)) :
    (iblk m c 2 t (ix2 r n) : EReal) = (show S8192x8192.Idx → EReal from m ((c : Thread nD τ).loc main_arg2)) (ix2 R C) := by
  refine Eq.trans ?_ (v_gates m c (ix2 R C))
  unfold iblk
  have key : ∀ Z : (S8192x8192.Idx → Ideal .bf16), ((cfg0.win 2).blk t).view.read (Elt Ideal) Z (ix2 r n) = Z (ix2 R C) := by
    intro Z
    blk_ext [idx t]
  exact key _

/-- The first mixer's output a grid point reads. -/
theorem prev (c : Dev nD) (t : Fin cfg0.N) (r : Fin 1024) (n : Fin 512) (R : Fin 8192) (C : Fin 4096) (hr : R.val = t.val / 8 * 1024 + r.val) (h : C.val = t.val % 8 * 512 + n.val) :
    (iblk m c 3 t (ix2 r n) : EReal) = (show S8192x4096.Idx → EReal from m ((c : Thread nD τ).loc main_arg3)) (ix2 R C) := by
  refine Eq.trans ?_ (congrFun (V_main_arg3 m c) (ix2 R C))
  unfold iblk
  have key : ∀ Z : (S8192x4096.Idx → Ideal .f32), ((cfg0.win 3).blk t).view.read (Elt Ideal) Z (ix2 r n) = Z (ix2 R C) := by
    intro Z
    blk_ext [idx t]
  exact key _

/-- Where a stored entry lies in the array. -/
theorem place (t : Fin cfg0.N) (y : S1024x512.Idx) :
    ((((cfg0.win 4).blk t).view.emb y : S8192x4096.Idx) 0).val = t.val / 8 * 1024 + (y 0).val
    ∧ ((((cfg0.win 4).blk t).view.emb y : S8192x4096.Idx) 1).val = t.val % 8 * 512 + (y 1).val := by
  constructor
  all_goals
    blk_simp [idx t]
    try omega

/-- A term of the padded contraction is a term of the contraction, or zero in the padding. -/
theorem term (c : Dev nD) (R : Fin 8192) (C : Fin 4096) (b : Fin 16) (l : Fin 384) :
    (show S8192x6144.Idx → EReal from V m c main_v3) (ix2 R ⟨384 * b.val + l.val, by omega⟩) * (show S6144x4096.Idx → EReal from V m c main_v7) (ix2 ⟨384 * b.val + l.val, by omega⟩ C)
      = if h : l.val < 336 then (show S8192x5376.Idx → EReal from m ((c : Thread nD τ).loc main_arg0)) (ix2 R ⟨b.val * 336 + l.val, by omega⟩)
          * (show S5376x4096.Idx → EReal from m ((c : Thread nD τ).loc main_arg1)) (ix2 ⟨b.val * 336 + l.val, by omega⟩ C) else 0 := by
  refine (congrArg₂ (fun a b : EReal => a * b) (v_toks m c R b l) (v_weights m c C b l)).trans ?_
  by_cases h : l.val < 336
  · refine (congrArg₂ (fun a b : EReal => a * b) (dif_pos h) (dif_pos h)).trans ?_
    refine Eq.trans ?_ (dif_pos h).symm
    rfl
  · refine (congrArg₂ (fun a b : EReal => a * b) (dif_neg h) (dif_neg h)).trans ?_
    refine Eq.trans ?_ (dif_neg h).symm
    exact mul_zero (0 : EReal)

/-- The array after the run is the sum. -/
theorem final (c : Dev nD) : (dats m 0 c).arrAt 4 cfg0.N = prod m c := by
  refine (dats m 0 c).arrAt_eq_of_covers 4 (prod m c) (by decide +kernel) fun t hf y => ?_
  have he : (dats m 0 c).after 4 t = out0_4 (iblk m c 0 t) (iblk m c 1 t) (iblk m c 2 t) (iblk m c 3 t) := after0_4 m c t
  refine (congrFun he y).trans ((body_at _ _ _ _ y).trans ?_)
  unfold prod
  obtain ⟨hr, hc⟩ := place t y
  refine congrArg₂ (fun a b : EReal => a + b) (prev m c t _ _ _ _ hr hc) ?_
  refine congrArg₂ (fun a b : EReal => sigm a * b) (gates m c t _ _ _ _ hr (congrArg (fun n => 4096 + n) hc)) ?_
  refine Eq.trans (Finset.sum_congr rfl fun k _ => congrArg₂ (fun a b : EReal => a * b) (toks m c t _ k _ hr) (weights m c t k _ _ hc)) ?_
  exact sum_blocks _ _ (term m c _ _)

end Cert.Kernel7Ideal.Mm

namespace Cert.Reference7Ideal.Mm
open Cert.Reference7Ideal Cert.Reference7Ideal.Gen Cert.Rglru

/-- The reference's result at an index. -/
theorem returned (A : S8192x5376.Idx → Ideal .f32) (B : S5376x4096.Idx → Ideal .f32) (G : S8192x8192.Idx → Ideal .f32) (P : S8192x4096.Idx → Ideal .f32) (j : S8192x4096.Idx) :
    (truncf (F := Ideal) .bf16 (addf P (mulf (extractStridedSlice S8192x4096 ![0, 4096] (Host.divf (broadcastInDim S8192x8192 ![] bcast_S_S8192x8192 (constant S_ .f32 0x3F800000#32)) (addf (broadcastInDim S8192x8192 ![] bcast_S_S8192x8192 (constant S_ .f32 0x3F800000#32)) (Host.exp (Host.negf G)))) slices_S8192x8192_S8192x4096_0_4096) (Host.dotGeneral dot_S8192x5376_S5376x4096_S8192x4096_1_0_0_1_n_n none A B))) bitsLt_bf16_f32 j : EReal)
      = (P (ix2 (j 0) (j 1)) : EReal) + sigm (G (ix2 (j 0) ⟨4096 + (j 1).val, by have h : (j 1).val < 4096 := (j 1).isLt; omega⟩) : EReal) * ∑ k : Fin 5376, (A (ix2 (j 0) k) : EReal) * B (ix2 k (j 1)) := by
  pointwise []
  simp only [one_bits, sigm]

end Cert.Reference7Ideal.Mm
end
-- ==== Proof.OutProj.lean ====
/-
  The output projection of the mixer: the kernel's array is the product of the mixed tokens and the weights.
-/
module

public import proofs.«01_k».proof.Proof.Gen.Kernel8Ideal.Value
public import proofs.«01_k».proof.Proof.Gen.Reference8Ideal.Run
public import Idealize.ShloMosaic.Lib.Pipeline.ValueKit
public import Idealize.ShloMosaic.Lib.Claim

@[expose] public section

set_option maxRecDepth 16384
noncomputable section
open Idealize.ShloMosaic Idealize.ShloMosaic.TcCoe Idealize.SL.Sem
namespace Cert.Kernel8Ideal.Mm
open Cert.Kernel8Ideal Cert.Kernel8Ideal.Gen
variable (m : (ℓ : Loc nD τ sig) → Buf (Elt Ideal) ℓ)

/-- What the body stores is the product of its two blocks. -/
theorem body_at (X : Vec Ideal S1024x4096 .bf16) (W : Vec Ideal S4096x512 .bf16) (y : S1024x512.Idx) :
    (out0_2 X W y : EReal) = ∑ k : Fin 4096, (X (ix2 (y 0) k) : EReal) * W (ix2 k (y 1)) := by
  frame_out
  pointwise [k0_pay1]

/-- The product the call returns. -/
def prod (c : Dev nD) : S8192x4096.Idx → Ideal .bf16 := fun j =>
  ∑ k : Fin 4096, (show S8192x4096.Idx → EReal from m ((c : Thread nD τ).loc main_arg0)) (ix2 (j 0) k)
    * (show S4096x4096.Idx → EReal from m ((c : Thread nD τ).loc main_arg1)) (ix2 k (j 1))

/-- Where the windows' blocks lie at a grid point. -/
theorem idx : ∀ t : Fin cfg0.N, win0_0.index t = ![t.val / 8, 0] ∧ win0_1.index t = ![0, t.val % 8] ∧ win0_2.index t = ![t.val / 8, t.val % 8] :=
  (by decide +kernel : ∀ t : Fin grid0.N, _)

/-- The cast mixed tokens. -/
theorem v_toks (c : Dev nD) (i : S8192x4096.Idx) :
    (V m c main_v0 : S8192x4096.Idx → Ideal .bf16) i = (show S8192x4096.Idx → EReal from m ((c : Thread nD τ).loc main_arg0)) i := by
  simp only [V, hostOps0, List.flatten_cons, List.flatten_nil, List.append_nil, List.cons_append, List.nil_append]
  after_results
  rfl

/-- The cast weights. -/
theorem v_weights (c : Dev nD) (i : S4096x4096.Idx) :
    (V m c main_v1 : S4096x4096.Idx → Ideal .bf16) i = (show S4096x4096.Idx → EReal from m ((c : Thread nD τ).loc main_arg1)) i := by
  simp only [V, hostOps0, List.flatten_cons, List.flatten_nil, List.append_nil, List.cons_append, List.nil_append]
  after_results
  rfl

/-- The rows of mixed tokens a grid point reads. -/
theorem toks (c : Dev nD) (t : Fin cfg0.N) (r : Fin 1024) (k : Fin 4096) (R : Fin 8192) (h : R.val = t.val / 8 * 1024 + r.val) :
    (iblk m c 0 t (ix2 r k) : EReal) = (show S8192x4096.Idx → EReal from m ((c : Thread nD τ).loc main_arg0)) (ix2 R k) := by
  refine Eq.trans ?_ (v_toks m c (ix2 R k))
  unfold iblk
  have key : ∀ Z : (S8192x4096.Idx → Ideal .bf16), ((cfg0.win 0).blk t).view.read (Elt Ideal) Z (ix2 r k) = Z (ix2 R k) := by
    intro Z
    blk_ext [idx t]
  exact key _

/-- The columns of weights a grid point reads. -/
theorem weights (c : Dev nD) (t : Fin cfg0.N) (k : Fin 4096) (n : Fin 512) (C : Fin 4096) (h : C.val = t.val % 8 * 512 + n.val) :
    (iblk m c 1 t (ix2 k n) : EReal) = (show S4096x4096.Idx → EReal from m ((c : Thread nD τ).loc main_arg1)) (ix2 k C) := by
  refine Eq.trans ?_ (v_weights m c (ix2 k C))
  unfold iblk
  have key : ∀ Z : (S4096x4096.Idx → Ideal .bf16), ((cfg0.win 1).blk t).view.read (Elt Ideal) Z (ix2 k n) = Z (ix2 k C) := by
    intro Z
    blk_ext [idx t]
  exact key _

/-- Where a stored entry lies in the array. -/
theorem place (t : Fin cfg0.N) (y : S1024x512.Idx) :
    ((((cfg0.win 2).blk t).view.emb y : S8192x4096.Idx) 0).val = t.val / 8 * 1024 + (y 0).val
    ∧ ((((cfg0.win 2).blk t).view.emb y : S8192x4096.Idx) 1).val = t.val % 8 * 512 + (y 1).val := by
  constructor
  all_goals
    blk_simp [idx t]
    try omega

/-- The array after the run is the product. -/
theorem final (c : Dev nD) : (dats m 0 c).arrAt 2 cfg0.N = prod m c := by
  refine (dats m 0 c).arrAt_eq_of_covers 2 (prod m c) (by decide +kernel) fun t hf y => ?_
  have he : (dats m 0 c).after 2 t = out0_2 (iblk m c 0 t) (iblk m c 1 t) := after0_2 m c t
  refine (congrFun he y).trans ((body_at _ _ y).trans ?_)
  obtain ⟨hr, hc⟩ := place t y
  refine Finset.sum_congr rfl fun k _ => ?_
  exact congrArg₂ (fun a b : EReal => a * b) (toks m c t _ k _ hr) (weights m c t k _ _ hc)

end Cert.Kernel8Ideal.Mm

namespace Cert.Reference8Ideal.Mm
open Cert.Reference8Ideal Cert.Reference8Ideal.Gen

/-- The reference's result at an index. -/
theorem returned (A : S8192x4096.Idx → Ideal .f32) (B : S4096x4096.Idx → Ideal .f32) (j : S8192x4096.Idx) :
    (truncf (F := Ideal) .bf16 (Host.dotGeneral dot_S8192x4096_S4096x4096_S8192x4096_1_0_0_1_n_n none A B) bitsLt_bf16_f32 j : EReal)
      = ∑ k : Fin 4096, (A (ix2 (j 0) k) : EReal) * B (ix2 k (j 1)) := by
  pointwise []

end Cert.Reference8Ideal.Mm
end
-- ==== Proof.Idle.lean ====
/-
  An output block that is stored once and then left in its buffer: what the buffer holds until the block is written back.
-/
module

public import Idealize.ShloMosaic.Lib.Pipeline.FrameBody

@[expose] public section

noncomputable section
open Idealize.ShloMosaic Idealize.ShloMosaic.TcCoe Idealize.SL.Sem Idealize.SL.RA
namespace Cert.Idle
open Idealize.ShloMosaic.Pipeline (Dat Cfg Window)

variable {nD : ℕ} {τ : Topo} {sig : RefSig} {Val : EltTy → Type} {Ix : Type} [DecidableEq Ix] {Name : Type} [DecidableEq Name]
  {U : Type} [URA U] {Lvl : Type} {Λ₀ : Idealize.SL.Sem.Labels} {cfg : Cfg sig Λ₀} {c : Dev nD}

/-- Of an uncut window the buffer keeps all that the body left. -/
theorem kept_eq (dat : Dat τ Val Ix Name U Lvl cfg c) (w : Fin cfg.W) (hclip : ∀ i a, (cfg.win w).clip i a = none) (t : Fin cfg.N)
    (d : (cfg.win w).block.Idx → Val (cfg.win w).elt) : dat.kept w t d = dat.after w t := by
  unfold Dat.kept
  funext j
  have hm : (cfg.win w).moved (cfg.grid.coords t) j = true :=
    ((cfg.win w).moved_iff _ j).mpr fun a => by have := (j a).isLt; unfold Window.xsize; rw [hclip]; exact this
  unfold Window.fill
  rw [dif_pos hm]

/-- From the last point that stores into an output's buffer to the point that writes it back the body finds there what was stored. -/
theorem before_eq (dat : Dat τ Val Ix Name U Lvl cfg c) (w : Fin cfg.W) (hout : (cfg.win w).isOut = true)
    (hclip : ∀ i a, (cfg.win w).clip i a = none) (b : Fin cfg.N) (hlive : cfg.idle w (cfg.grid.coords b) = false)
    (hidle : ∀ t : Fin cfg.N, b < t → cfg.idle w (cfg.grid.coords t) = true)
    (hflush : ∀ t : Fin cfg.N, b ≤ t → t.val + 1 < cfg.N → (cfg.win w).flush t = false)
    (d : (cfg.win w).block.Idx → Val (cfg.win w).elt) :
    ∀ (n : ℕ) (hn : n < cfg.N), b.val < n → dat.before w ⟨n, hn⟩ d = dat.after w b := by
  intro n
  induction n with
  | zero => intro _ h; exact absurd h (Nat.not_lt_zero _)
  | succ n ih =>
    intro hn hb
    rw [dat.before_of_pos w ⟨n + 1, hn⟩ (Nat.succ_ne_zero n) ((cfg.win w).fetch_out hout _) d]
    have hf : (cfg.win w).flush ⟨n, Nat.lt_of_succ_lt hn⟩ = false := hflush ⟨n, Nat.lt_of_succ_lt hn⟩ (Nat.le_of_lt_succ hb) hn
    show (if (cfg.win w).flush ⟨n, Nat.lt_of_succ_lt hn⟩ = true then d else dat.left w ⟨n, Nat.lt_of_succ_lt hn⟩ d) = _
    rw [hf, if_neg Bool.false_ne_true]
    rcases Nat.lt_or_ge b.val n with h | h
    · unfold Dat.left
      rw [hidle ⟨n, Nat.lt_of_succ_lt hn⟩ h]
      exact ih _ h
    · have e : (⟨n, Nat.lt_of_succ_lt hn⟩ : Fin cfg.N) = b := Fin.ext (Nat.le_antisymm h (Nat.le_of_lt_succ hb))
      rw [e]
      unfold Dat.left
      rw [hlive]
      exact kept_eq dat w hclip b d

end Cert.Idle
end
-- ==== Proof.UpRun.lean ====
/-
  The run of the up projection of the feed-forward network. The call also casts the weights of the down projection, a block at each
  of its first 43 points; the last block stays in its buffer until the last point writes it back.
-/
module

public import proofs.«01_k».proof.Proof.Gen.Kernel2Ideal.Launch
public import proofs.«01_k».proof.Proof.Gen.Kernel2Ideal.Skeleton
public import proofs.«01_k».proof.Proof.Gen.Kernel2Ideal.Points
public import proofs.«01_k».proof.Proof.Idle
public import Idealize.ShloMosaic.Lib.Pipeline.FrameBody
public import Idealize.ShloMosaic.Lib.VecWindow
public import Idealize.ShloMosaic.Lib.Ring
public import Idealize.ShloMosaic.Lib.Tactic
public import Idealize.ShloMosaic.Lib.WordCmp

@[expose] public section

set_option maxRecDepth 16384
noncomputable section
namespace Cert.Kernel2Ideal.Up
open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers when the call is entered: after the cast of the tokens. -/
abbrev V (c : Dev nD) (b : Ref sig .tc) : Buf (Elt F) ((c : Thread nD τ).loc b) := StableHlo.after hostOps0 (fun b => m (c, b)) b

theorem ops_fresh : (hostOps0 : List (HloOp τ sig (Elt F))).Forall fun op => op.fresh = ∅ := by
  simp only [List.Forall]; repeat' constructor

set_option maxHeartbeats 800000 in
/-- The program up to the call. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub ops_fresh main_chain

/-- The cast before the call writes its own result only. -/
theorem V_arg (c : Dev nD) (b : Ref sig .tc) (h : b ≠ main_v0) : V m c b = m ((c : Thread nD τ).loc b) :=
  StableHlo.after_of_forall_not_mem (b := Proc.devRef .tc b) _ _ (List.forall_iff_forall_mem.mp (by
    simp only [hostOps0, List.Forall, StableHlo.unary_writes, Finset.mem_singleton]
    exact StableHlo.devRef_ne_of_ne h))

/-- The block a window reads at a point. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The point whose side block is in the buffer at a point: itself, or the last that stores one. -/
def side (t : Fin cfg0.N) : Fin cfg0.N := ⟨min t.val 42, Nat.lt_of_le_of_lt (Nat.min_le_left _ _) t.isLt⟩

/-- The body casts a side block at the points before point 43. -/
theorem casts : ∀ t : Fin cfg0.N, k0_cond1 (grid0.coords t) = 1#1 ↔ t.val < 43 :=
  (fun t => by
    have ht : t.val < 172 := Nat.lt_of_lt_of_eq t.isLt N_0
    have e0 : (grid0.coords t 0).val = t.val / 43 % 4 := Pipeline.Grid.coords_val t 0 (by decide) rfl
    have e1 : (grid0.coords t 1).val = t.val / 1 % 43 := Pipeline.Grid.coords_val t 1 (by decide) rfl
    simp only [k0_cond1, e0, e1]
    word_cmp
   : ∀ t : Fin grid0.N, k0_cond1 (grid0.coords t) = 1#1 ↔ t.val < 43)

theorem live5 : ∀ t : Fin cfg0.N, t.val < 43 → cfg0.idle 5 (grid0.coords t) = false :=
  (by decide +kernel : ∀ t : Fin grid0.N, _)
theorem idle5 : ∀ t : Fin cfg0.N, 42 < t.val → cfg0.idle 5 (grid0.coords t) = true :=
  (by decide +kernel : ∀ t : Fin grid0.N, _)
theorem flush5 : ∀ t : Fin cfg0.N, 42 ≤ t.val → t.val + 1 < 172 → (cfg0.win 5).flush t = false :=
  (by decide +kernel : ∀ t : Fin grid0.N, _)

/-- The body on whole buffers: the product, gated, is stored, and the side block is cast where the point says so. -/
theorem run (c : Dev nD) (i : grid0.Coords) (arg2 : Memref sig .tc .vmem S2304x4096 .bf16) (harg2 : arg2.IsWhole) (arg3 : Memref sig .tc .vmem S1x1x4096x256 .f32) (harg3 : arg3.IsWhole) (arg4 : Memref sig .tc .vmem S1x1x4096x256 .f32) (harg4 : arg4.IsWhole) (arg5 : Memref sig .tc .vmem S1x1x256x4096 .f32) (harg5 : arg5.IsWhole) (arg6 : Memref sig .tc .vmem S2304x256 .bf16) (harg6 : arg6.IsWhole) (arg7 : Memref sig .tc .vmem S256x4096 .bf16) (harg7 : arg7.IsWhole)
    (x0 : Vec F S2304x4096 .bf16) (x1 : Vec F S1x1x4096x256 .f32) (x2 : Vec F S1x1x4096x256 .f32) (x3 : Vec F S1x1x256x4096 .f32) (x5 : Vec F S256x4096 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare x5
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k0_pay1 x0 x1 x2) ∗ owns (c : Thread nD τ) arg7 fullShare (if k0_cond1 i = 1#1 then k0_pay2 x3 else x5)) -∗ K ⟨⟩))
      ⊢ wp frame (wpE (defs₀ (F := F)) Variants.none c none) E (cc0_ffn_up_swiglu i arg2 harg2 arg3 harg3 arg4 harg4 arg5 harg5 arg6 harg6 arg7 harg7) K := by
  simp only [cc0_ffn_up_swiglu_eq_skeleton]; unfold cc0_ffn_up_swiglu_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
  by_cases hc0 : k0_cond1 i = 1#1
  · rw [if_pos hc0]
    sl_exec (disch := first | sl_exact hc0)
    sl_step
    iapply Hk
    isplitl [H0]; · iexists _; isplitr; · ipureintro; exact hf0
                    iexact H0
    isplitl [H1]; · iexists _; isplitr; · ipureintro; exact hf1
                    iexact H1
    isplitl [H2]; · iexists _; isplitr; · ipureintro; exact hf2
                    iexact H2
    isplitl [H3]; · iexists _; isplitr; · ipureintro; exact hf3
                    iexact H3
    isplitl [H4]
    · iexists _; isplitr
      swap; · iexact H4
      ipureintro
      refine (View.read_writes_full _ _ _ _ _).trans ?_
      rw [View.readAt_full, View.readAt_full, View.readAt_full, hf0, hf1, hf2]
    iexists _; isplitr
    swap; · iexact H5
    ipureintro
    refine (View.read_writes_full _ _ _ _ _).trans ?_
    rw [View.readAt_full, hf3]
  · rw [if_neg hc0]
    sl_exec (disch := first | sl_exact hc0)
    sl_step
    iapply Hk
    isplitl [H0]; · iexists _; isplitr; · ipureintro; exact hf0
                    iexact H0
    isplitl [H1]; · iexists _; isplitr; · ipureintro; exact hf1
                    iexact H1
    isplitl [H2]; · iexists _; isplitr; · ipureintro; exact hf2
                    iexact H2
    isplitl [H3]; · iexists _; isplitr; · ipureintro; exact hf3
                    iexact H3
    isplitl [H4]
    · iexists _; isplitr
      swap; · iexact H4
      ipureintro
      refine (View.read_writes_full _ _ _ _ _).trans ?_
      rw [View.readAt_full, View.readAt_full, View.readAt_full, hf0, hf1, hf2]
    iexists _; isplitr; · ipureintro; exact hf5
    iexact H5

/-- What the buffers hold after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => k0_pay1 (iblk m c 0 t) (iblk m c 1 t) (iblk m c 2 t)
    | ⟨5, _⟩ => k0_pay2 (iblk m c 3 (side t))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = k0_pay1 (iblk m c 0 t) (iblk m c 1 t) (iblk m c 2 t) := by dsimp only [dats]
theorem after_5 (c : Dev nD) (t : Fin cfg0.N) : (dats m 0 c).after 5 t = k0_pay2 (iblk m c 3 (side t)) := by dsimp only [dats]

/-- An input's buffer holds its block at every point. -/
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)

theorem side_last (t : Fin cfg0.N) (h : 42 ≤ t.val) : side t = ⟨42, Nat.lt_of_le_of_lt h t.isLt⟩ :=
  Fin.ext (Nat.min_eq_right h)
theorem side_self (t : Fin cfg0.N) (h : t.val < 43) : side t = t :=
  Fin.ext (Nat.min_eq_left (Nat.le_of_lt_succ h))

/-- Past the last cast the buffer still holds the last block. -/
theorem before_5 (c : Dev nD) (t : Fin cfg0.N) (h : 42 < t.val) (d) : (dats m 0 c).before 5 t d = (dats m 0 c).after 5 t := by
  have hb : 42 < cfg0.N := Nat.lt_trans h t.isLt
  refine (Cert.Idle.before_eq (dats m 0 c) 5 rfl (fun _ _ => rfl) ⟨42, hb⟩ (live5 _ (Nat.lt_succ_self 42)) (fun t h => idle5 t h)
    (fun t h h' => flush5 t h (Nat.lt_of_lt_of_eq h' N_0)) d t.val t.isLt h).trans ?_
  rw [after_5, after_5, side_last t (Nat.le_of_lt h)]
  rfl

/-- A point past the last cast leaves what it found. -/
theorem leaves_late (c : Dev nD) (t : Fin cfg0.N) (h : 42 < t.val) (d) :
    owns (c : Thread nD τ) (win0_5.stage (cfg0.slots t 5)) fullShare ((dats m 0 c).before 5 t d) ⊢ ((dats m 0 c).leavesExact 5 t : sProp 𝕄) := by
  cases hf : (cfg0.win 5).flush t
  · rw [Dat.leavesExact_idle (dats m 0 c) 5 t (idle5 t h) hf]
    iintro H; iexists _; iexact H
  · rw [show (dats m 0 c).leavesExact 5 t = owns (c : Thread nD τ) (win0_5.stage (cfg0.slots t 5)) fullShare ((dats m 0 c).after 5 t) from by
      unfold Dat.leavesExact; rw [idle5 t h, hf], before_5 m c t h d]

/-- A point that casts leaves the cast block. -/
theorem leaves_early (c : Dev nD) (t : Fin cfg0.N) (h : t.val < 43) :
    owns (c : Thread nD τ) (win0_5.stage (cfg0.slots t 5)) fullShare (k0_pay2 (iblk m c 3 t)) ⊢ ((dats m 0 c).leavesExact 5 t : sProp 𝕄) := by
  rw [show (dats m 0 c).leavesExact 5 t = owns (c : Thread nD τ) (win0_5.stage (cfg0.slots t 5)) fullShare ((dats m 0 c).after 5 t) from by
    unfold Dat.leavesExact; rw [live5 t h], after_5, side_self t h]

/-- What the body is called with at a point. -/
def pre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d)))

/-- What it returns. -/
def post (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

set_option maxHeartbeats 800000 in
/-- The body at any point. -/
theorem sound (c : Dev nD) (t : Fin cfg0.N) :
    pre m c t ⊢ wp frame (wpE (defs₀ (F := F)) Variants.none c none) Set.univ (bodyAt0 t) (fun _ => post m c t) := by
  unfold pre post bodyAt0
  simp only [before_0, before_1, before_2, before_3]
  rw [show (dats m 0 c).Φ t.succ = (dats m 0 c).Φ t.castSucc from rfl,
    show (dats m 0 c).owesAt () t.succ = (dats m 0 c).owesAt () t.castSucc from rfl,
    show (dats m 0 c).leavesExact 0 t = owns (c : Thread nD τ) (win0_0.stage (cfg0.slots t 0)) fullShare ((dats m 0 c).after 0 t) from rfl,
    show (dats m 0 c).leavesExact 1 t = owns (c : Thread nD τ) (win0_1.stage (cfg0.slots t 1)) fullShare ((dats m 0 c).after 1 t) from rfl,
    show (dats m 0 c).leavesExact 2 t = owns (c : Thread nD τ) (win0_2.stage (cfg0.slots t 2)) fullShare ((dats m 0 c).after 2 t) from rfl,
    show (dats m 0 c).leavesExact 3 t = owns (c : Thread nD τ) (win0_3.stage (cfg0.slots t 3)) fullShare ((dats m 0 c).after 3 t) from rfl,
    show (dats m 0 c).leavesExact 4 t = owns (c : Thread nD τ) (win0_4.stage (cfg0.slots t 4)) fullShare ((dats m 0 c).after 4 t) from rfl,
    after_0, after_1, after_2, after_3, after_4]
  iintro ⟨HΦ, Ho, ⟨%d0, H0⟩, ⟨%d1, H1⟩, ⟨%d2, H2⟩, ⟨%d3, H3⟩, ⟨%d4, H4⟩, ⟨%d5, H5⟩⟩
  iapply (run c (grid0.coords t) _ _ _ _ _ _ _ _ _ _ _ _ (iblk m c 0 t) (iblk m c 1 t) (iblk m c 2 t) (iblk m c 3 t) ((dats m 0 c).before 5 t d5) Set.univ _)
  isplitl [H0]; · iexact H0
  isplitl [H1]; · iexact H1
  isplitl [H2]; · iexact H2
  isplitl [H3]; · iexact H3
  isplitl [H4]; · iexists _; iexact H4
  isplitl [H5]; · iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  by_cases h : t.val < 43
  · rw [if_pos ((casts t).mpr h)]
    iapply (leaves_early m c t h)
    iexact H5
  · rw [if_neg (fun g => h ((casts t).mp g))]
    iapply (leaves_late m c t (Nat.lt_of_not_le fun g => h (Nat.lt_succ_of_le g)) d5)
    iexact H5

theorem row (t : Fin cfg0.N) : defs₀ (F := F) .tc cfg0.body (cfg0.bodyArgs t (cfg0.slots t)) = bodyAt0 t := by
  unfold defs₀; rw [Defs.onTc_tc]

/-- The body at every point, as the pipeline asks for it. -/
theorem obligation (c : Dev nD) : BodyObligation (dats (F := F) m 0 c) (defs₀ (F := F)) Variants.none () Set.univ := fun t => by
  rw [bigSep_W0, bigSep_W0, row]
  exact triple_restated (sound m c t) rfl .rfl fun _ => .rfl

set_option backward.isDefEq.respectTransparency.types false in
/-- The program ends, with every array as the windows leave it and every counter at zero. -/
theorem run_quiet : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := A_eq m) (hΦ := fun _ _ => rfl)

/-- The two results after the run, and the arguments as they were. -/
theorem run_main : θ_run defs (onTc (τ := τ) (main (F := F))) ⟨m, fun _ => 0, ρ⟩ (fun r => (∀ c : Dev nD,
      r.2.mem ((c.tc : Thread nD τ).loc main_v1_0) = (dats m 0 c).arrAt 4 cfg0.N
      ∧ r.2.mem ((c.tc : Thread nD τ).loc main_v1_1) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨(h.1 c).1 4, (h.1 c).1 5,
      ((h.1 c).2 main_arg0 (Pipeline.mem_restRefs_of main_arg0 (by decide) (by decide))).trans (V_arg m c main_arg0 (by decide)),
      ((h.1 c).1 2).trans (((dats m 0 c).arrAt_in 2 rfl _).trans ((A_eq m c 2).trans (V_arg m c main_arg1 (by decide)))),
      ((h.1 c).1 3).trans (((dats m 0 c).arrAt_in 3 rfl _).trans ((A_eq m c 3).trans (V_arg m c main_arg2 (by decide))))⟩, h.2⟩)
    (run_quiet m ρ)

end Cert.Kernel2Ideal.Up
end
-- ==== Proof.Up.lean ====
/-
  The up projection of the feed-forward network: the kernel's first array is the gated product, its second the cast weights of the
  down projection.
-/
module

public import proofs.«01_k».proof.Proof.UpRun
public import proofs.«01_k».proof.Proof.Gen.Reference2Ideal.Run
public import Idealize.ShloMosaic.Lib.Pipeline.ValueKit
public import Idealize.ShloMosaic.Lib.Claim
public import proofs.«01_k».proof.Proof.Gate

@[expose] public section

set_option maxRecDepth 16384
noncomputable section
open Idealize.ShloMosaic Idealize.ShloMosaic.TcCoe Idealize.SL.Sem
namespace Cert.Kernel2Ideal.Mm
open Cert.Kernel2Ideal Cert.Kernel2Ideal.Gen Cert.Kernel2Ideal.Up Cert.Rglru
variable (m : (ℓ : Loc nD τ sig) → Buf (Elt Ideal) ℓ)

/-- What the body stores is the gated product of its blocks. -/
theorem body_at (X : Vec Ideal S2304x4096 .bf16) (G : Vec Ideal S1x1x4096x256 .f32) (W : Vec Ideal S1x1x4096x256 .f32) (y : S2304x256.Idx) :
    (k0_pay1 X G W y : EReal) = (∑ k : Fin 4096, (X (ix2 (y 0) k) : EReal) * G (ix4 0 0 k (y 1)))
      * sigm (∑ k : Fin 4096, (X (ix2 (y 0) k) : EReal) * G (ix4 0 0 k (y 1)))
      * ∑ k : Fin 4096, (X (ix2 (y 0) k) : EReal) * W (ix4 0 0 k (y 1)) := by
  pointwise [k0_pay1]
  simp only [half_bits, half_tanh]

/-- What the body casts. -/
theorem cast_at (B : Vec Ideal S1x1x256x4096 .f32) (y : S256x4096.Idx) : (k0_pay2 B y : EReal) = B (ix4 0 0 (y 0) (y 1)) := by
  pointwise [k0_pay2]

/-- The tokens. -/
abbrev A (c : Dev nD) : S9216x4096.Idx → EReal := m ((c : Thread nD τ).loc main_arg0)
/-- The weights of the up projection: those of the gate, then those gated. -/
abbrev B (c : Dev nD) : S1x2x4096x22016.Idx → EReal := m ((c : Thread nD τ).loc main_arg1)
/-- The weights of the down projection. -/
abbrev D (c : Dev nD) : S1x2x11008x4096.Idx → EReal := m ((c : Thread nD τ).loc main_arg2)

/-- The gated product of tokens and weights. -/
def swiglu (A : S9216x4096.Idx → EReal) (B : S1x2x4096x22016.Idx → EReal) : S9216x11008.Idx → EReal := fun j =>
  (∑ k : Fin 4096, A (ix2 (j 0) k) * B (ix4 0 0 k ⟨(j 1).val, by have h : (j 1).val < 11008 := (j 1).isLt; omega⟩))
    * sigm (∑ k : Fin 4096, A (ix2 (j 0) k) * B (ix4 0 0 k ⟨(j 1).val, by have h : (j 1).val < 11008 := (j 1).isLt; omega⟩))
    * ∑ k : Fin 4096, A (ix2 (j 0) k) * B (ix4 0 0 k ⟨11008 + (j 1).val, by have h : (j 1).val < 11008 := (j 1).isLt; omega⟩)

/-- The first array the call returns. -/
def prod (c : Dev nD) : S9216x11008.Idx → Ideal .bf16 := swiglu (A m c) (B m c)
/-- The second. -/
def down (c : Dev nD) : S11008x4096.Idx → Ideal .bf16 := fun j => D m c (ix4 0 0 (j 0) (j 1))

/-- Where the windows' blocks lie at a grid point. -/
theorem idx : ∀ t : Fin cfg0.N, win0_0.index t = ![t.val / 43, 0] ∧ win0_1.index t = ![0, 0, 0, t.val % 43] ∧ win0_2.index t = ![0, 0, 0, 43 + t.val % 43]
    ∧ win0_3.index t = ![0, 0, min t.val 42, 0] ∧ win0_4.index t = ![t.val / 43, t.val % 43] ∧ win0_5.index t = ![min t.val 42, 0] :=
  (by decide +kernel : ∀ t : Fin grid0.N, _)

/-- The cast tokens. -/
theorem v_toks (c : Dev nD) (i : S9216x4096.Idx) : (V m c main_v0 : S9216x4096.Idx → Ideal .bf16) i = A m c i := by
  simp only [V, hostOps0, List.flatten_cons, List.flatten_nil, List.append_nil, List.cons_append, List.nil_append]
  after_results
  rfl

/-- The rows of tokens a grid point reads. -/
theorem toks (c : Dev nD) (t : Fin cfg0.N) (r : Fin 2304) (k : Fin 4096) (R : Fin 9216) (h : R.val = t.val / 43 * 2304 + r.val) :
    (iblk m c 0 t (ix2 r k) : EReal) = A m c (ix2 R k) := by
  refine Eq.trans ?_ (v_toks m c (ix2 R k))
  unfold iblk
  have key : ∀ Z : (S9216x4096.Idx → Ideal .bf16), ((cfg0.win 0).blk t).view.read (Elt Ideal) Z (ix2 r k) = Z (ix2 R k) := by
    intro Z
    blk_ext [idx t]
  exact key _

/-- The gate's columns of weights a grid point reads. -/
theorem gates (c : Dev nD) (t : Fin cfg0.N) (k : Fin 4096) (n : Fin 256) (C : Fin 22016) (h : C.val = t.val % 43 * 256 + n.val) :
    (iblk m c 1 t (ix4 0 0 k n) : EReal) = B m c (ix4 0 0 k C) := by
  refine Eq.trans ?_ (congrFun (V_arg m c main_arg1 (by decide)) (ix4 0 0 k C))
  unfold iblk
  have key : ∀ Z : (S1x2x4096x22016.Idx → Ideal .f32), ((cfg0.win 1).blk t).view.read (Elt Ideal) Z (ix4 0 0 k n) = Z (ix4 0 0 k C) := by
    intro Z
    blk_ext [idx t]
  exact key _

/-- The gated columns of weights a grid point reads. -/
theorem weights (c : Dev nD) (t : Fin cfg0.N) (k : Fin 4096) (n : Fin 256) (C : Fin 22016) (h : C.val = 11008 + (t.val % 43 * 256 + n.val)) :
    (iblk m c 2 t (ix4 0 0 k n) : EReal) = B m c (ix4 0 0 k C) := by
  refine Eq.trans ?_ (congrFun (V_arg m c main_arg1 (by decide)) (ix4 0 0 k C))
  unfold iblk
  have key : ∀ Z : (S1x2x4096x22016.Idx → Ideal .f32), ((cfg0.win 2).blk t).view.read (Elt Ideal) Z (ix4 0 0 k n) = Z (ix4 0 0 k C) := by
    intro Z
    blk_ext [idx t]
  exact key _

/-- The rows of the down projection's weights a grid point reads. -/
theorem downs (c : Dev nD) (t : Fin cfg0.N) (r : Fin 256) (k : Fin 4096) (R : Fin 11008) (h : R.val = min t.val 42 * 256 + r.val) :
    (iblk m c 3 t (ix4 0 0 r k) : EReal) = D m c (ix4 0 0 R k) := by
  refine Eq.trans ?_ (congrFun (V_arg m c main_arg2 (by decide)) (ix4 0 0 R k))
  unfold iblk
  have key : ∀ Z : (S1x2x11008x4096.Idx → Ideal .f32), ((cfg0.win 3).blk t).view.read (Elt Ideal) Z (ix4 0 0 r k) = Z (ix4 0 0 R k) := by
    intro Z
    blk_ext [idx t]
  exact key _

/-- Where a stored entry lies in the first array. -/
theorem place (t : Fin cfg0.N) (y : S2304x256.Idx) :
    ((((cfg0.win 4).blk t).view.emb y : S9216x11008.Idx) 0).val = t.val / 43 * 2304 + (y 0).val
    ∧ ((((cfg0.win 4).blk t).view.emb y : S9216x11008.Idx) 1).val = t.val % 43 * 256 + (y 1).val := by
  constructor
  all_goals
    blk_simp [idx t]
    try omega

/-- Where a cast entry lies in the second. -/
theorem place_down (t : Fin cfg0.N) (y : S256x4096.Idx) :
    ((((cfg0.win 5).blk t).view.emb y : S11008x4096.Idx) 0).val = min t.val 42 * 256 + (y 0).val
    ∧ ((((cfg0.win 5).blk t).view.emb y : S11008x4096.Idx) 1).val = (y 1).val := by
  constructor
  all_goals
    blk_simp [idx t]
    try omega

/-- The first array after the run is the gated product. -/
theorem final (c : Dev nD) : (dats m 0 c).arrAt 4 cfg0.N = prod m c := by
  refine (dats m 0 c).arrAt_eq_of_covers 4 (prod m c) (by decide +kernel) fun t hf y => ?_
  have he : (dats m 0 c).after 4 t = k0_pay1 (iblk m c 0 t) (iblk m c 1 t) (iblk m c 2 t) := after_4 m c t
  refine (congrFun he y).trans ((body_at _ _ _ y).trans ?_)
  unfold prod swiglu
  obtain ⟨hr, hc⟩ := place t y
  have hl : (((cfg0.win 4).blk t).view.emb y 1).val < 11008 := (((cfg0.win 4).blk t).view.emb y 1).isLt
  have hg := Finset.sum_congr rfl fun k (_ : k ∈ Finset.univ) => congrArg₂ (fun a b : EReal => a * b) (toks m c t (y 0) k (((cfg0.win 4).blk t).view.emb y 0) hr)
    (gates m c t k (y 1) ⟨(((cfg0.win 4).blk t).view.emb y 1).val, by omega⟩ hc)
  have hu := Finset.sum_congr rfl fun k (_ : k ∈ Finset.univ) => congrArg₂ (fun a b : EReal => a * b) (toks m c t (y 0) k (((cfg0.win 4).blk t).view.emb y 0) hr)
    (weights m c t k (y 1) ⟨11008 + (((cfg0.win 4).blk t).view.emb y 1).val, by omega⟩ (congrArg (fun n => 11008 + n) hc))
  exact congrArg₂ (fun a b : EReal => a * b) (congrArg (fun g : EReal => g * sigm g) hg) hu

/-- The second array after the run is the cast weights. -/
theorem final_down (c : Dev nD) : (dats m 0 c).arrAt 5 cfg0.N = down m c := by
  refine (dats m 0 c).arrAt_eq_of_covers 5 (down m c) (by decide +kernel) fun t hf y => ?_
  have he : (dats m 0 c).after 5 t = k0_pay2 (iblk m c 3 (side t)) := after_5 m c t
  refine (congrFun he y).trans ((cast_at _ y).trans ?_)
  obtain ⟨hr, hc⟩ := place_down t y
  have hs : (side t).val = min t.val 42 := rfl
  refine (downs m c (side t) (y 0) (y 1) (((cfg0.win 5).blk t).view.emb y 0) ?_).trans ?_
  · rw [hs, Nat.min_assoc, Nat.min_self]; exact hr
  · exact congrArg (fun n : Fin 4096 => D m c (ix4 0 0 (((cfg0.win 5).blk t).view.emb y 0) n)) (Fin.ext hc.symm)

/-- The run with its two results named. -/
theorem run_named (ρ : Dev nD → PrngReg) : θ_run defs (onTc (τ := τ) (main (F := Ideal))) ⟨m, fun _ => 0, ρ⟩ (fun r => ∀ c : Dev nD,
      r.2.mem ((c.tc : Thread nD τ).loc main_v1_0) = (dats m 0 c).arrAt 4 cfg0.N
      ∧ r.2.mem ((c.tc : Thread nD τ).loc main_v1_1) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h => h.1) (run_main m ρ)

end Cert.Kernel2Ideal.Mm

namespace Cert.Reference2Ideal.Mm
open Cert.Reference2Ideal Cert.Reference2Ideal.Gen Cert.Rglru

/-- The product of the tokens and all the columns of weights. -/
theorem dot_at (A : S9216x4096.Idx → Ideal .f32) (B : S1x2x4096x22016.Idx → Ideal .f32) (j : S9216x22016.Idx) :
    ((Host.dotGeneral (F := Ideal) dot_S9216x4096_S4096x22016_S9216x22016_1_0_0_1_n_n none A (shapeCast _ (extractStridedSlice S1x1x4096x22016 ![0, 0, 0, 0] B slices_S1x2x4096x22016_S1x1x4096x22016_0_0_0_0) shapeCasts_S1x1x4096x22016_S4096x22016) : S9216x22016.Idx → Ideal .f32) j : EReal)
      = ∑ k : Fin 4096, (A (ix2 (j 0) k) : EReal) * B (ix4 0 0 k (j 1)) := by
  pointwise []

/-- The reference's gated product at an index, of any product. -/
theorem gated (P : S9216x22016.Idx → Ideal .f32) (j : S9216x11008.Idx) :
    (truncf (F := Ideal) .bf16 (mulf (mulf (extractStridedSlice S9216x11008 ![0, 0] P slices_S9216x22016_S9216x11008_0_0) (Host.divf (broadcastInDim S9216x11008 ![] bcast_S_S9216x11008 (constant S_ .f32 0x3F800000#32)) (addf (broadcastInDim S9216x11008 ![] bcast_S_S9216x11008 (constant S_ .f32 0x3F800000#32)) (Host.exp (Host.negf (extractStridedSlice S9216x11008 ![0, 0] P slices_S9216x22016_S9216x11008_0_0)))))) (extractStridedSlice S9216x11008 ![0, 11008] P slices_S9216x22016_S9216x11008_0_11008)) bitsLt_bf16_f32 j : EReal)
      = (P (ix2 (j 0) ⟨(j 1).val, by have h : (j 1).val < 11008 := (j 1).isLt; omega⟩) : EReal)
        * sigm (P (ix2 (j 0) ⟨(j 1).val, by have h : (j 1).val < 11008 := (j 1).isLt; omega⟩) : EReal)
        * P (ix2 (j 0) ⟨11008 + (j 1).val, by have h : (j 1).val < 11008 := (j 1).isLt; omega⟩) := by
  pointwise []
  simp only [one_bits, sigm]

/-- The reference's cast weights at an index. -/
theorem cast_at (D : S1x2x11008x4096.Idx → Ideal .f32) (j : S11008x4096.Idx) :
    (truncf (F := Ideal) .bf16 (shapeCast S11008x4096 (extractStridedSlice S1x1x11008x4096 ![0, 0, 0, 0] D slices_S1x2x11008x4096_S1x1x11008x4096_0_0_0_0) shapeCasts_S1x1x11008x4096_S11008x4096) bitsLt_bf16_f32 j : EReal)
      = D (ix4 0 0 (j 0) (j 1)) := by
  pointwise []

end Cert.Reference2Ideal.Mm
end
-- ==== Proof.MergeRun.lean ====
/-
  The run of the input projection's gates for the merge of the two mixers. The call also casts the weights of the first mixer's output
  projection, a block at each of its first 32 points; the last block stays in its buffer until the last point writes it back.
-/
module

public import proofs.«01_k».proof.Proof.Gen.Kernel9Ideal.Launch
public import proofs.«01_k».proof.Proof.Gen.Kernel9Ideal.Skeleton
public import proofs.«01_k».proof.Proof.Gen.Kernel9Ideal.Points
public import proofs.«01_k».proof.Proof.Idle
public import Idealize.ShloMosaic.Lib.Pipeline.FrameBody
public import Idealize.ShloMosaic.Lib.VecWindow
public import Idealize.ShloMosaic.Lib.Ring
public import Idealize.ShloMosaic.Lib.Tactic
public import Idealize.ShloMosaic.Lib.WordCmp

@[expose] public section

set_option maxRecDepth 16384
noncomputable section
namespace Cert.Kernel9Ideal.Merge
open Cert.Kernel9Ideal Cert.Kernel9Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers when the call is entered: after the cast of the tokens. -/
abbrev V (c : Dev nD) (b : Ref sig .tc) : Buf (Elt F) ((c : Thread nD τ).loc b) := StableHlo.after hostOps0 (fun b => m (c, b)) b

theorem ops_fresh : (hostOps0 : List (HloOp τ sig (Elt F))).Forall fun op => op.fresh = ∅ := by
  simp only [List.Forall]; repeat' constructor

set_option maxHeartbeats 800000 in
/-- The program up to the call. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub ops_fresh main_chain

/-- The cast before the call writes its own result only. -/
theorem V_arg (c : Dev nD) (b : Ref sig .tc) (h : b ≠ main_v0) : V m c b = m ((c : Thread nD τ).loc b) :=
  StableHlo.after_of_forall_not_mem (b := Proc.devRef .tc b) _ _ (List.forall_iff_forall_mem.mp (by
    simp only [hostOps0, List.Forall, StableHlo.unary_writes, Finset.mem_singleton]
    exact StableHlo.devRef_ne_of_ne h))

/-- The block a window reads at a point. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The tokens' rows run past their blocks in the array, but no block is cut. -/
theorem whole0 (t : Fin cfg0.N) (j : (cfg0.win 0).block.Idx) : (cfg0.win 0).moved (cfg0.grid.coords t) j = true :=
  ((cfg0.win 0).moved_iff _ j).mpr fun a => by
    rw [(by decide +kernel : ∀ t : Fin cfg0.N, ∀ a, (cfg0.win 0).xsize (cfg0.grid.coords t) a = (cfg0.win 0).size a) t a]; exact (j a).isLt

/-- The tokens a point reads, as a whole buffer. -/
def toks0 (c : Dev nD) (t : Fin cfg0.N) : (cfg0.win 0).block.Idx → Elt F (cfg0.win 0).elt :=
  (cfg0.win 0).fill (cfg0.grid.coords t) (fun _ => Classical.choice inferInstance) (iblk m c 0 t)

/-- A fetch of tokens fills the buffer. -/
theorem fill0 (t : Fin cfg0.N) (d d' : (cfg0.win 0).block.Idx → Elt F (cfg0.win 0).elt) (g) :
    (cfg0.win 0).fill (cfg0.grid.coords t) d g = (cfg0.win 0).fill (cfg0.grid.coords t) d' g := by
  funext j; unfold Pipeline.Window.fill; rw [dif_pos (whole0 t j), dif_pos (whole0 t j)]

/-- The point whose side block is in the buffer at a point: itself, or the last that stores one. -/
def side (t : Fin cfg0.N) : Fin cfg0.N := ⟨min t.val 31, Nat.lt_of_le_of_lt (Nat.min_le_left _ _) t.isLt⟩

/-- The body casts a side block at the points before point 32. -/
theorem casts : ∀ t : Fin cfg0.N, k0_cond1 (grid0.coords t) = 1#1 ↔ t.val < 32 :=
  (fun t => by
    have ht : t.val < 128 := Nat.lt_of_lt_of_eq t.isLt N_0
    have e0 : (grid0.coords t 0).val = t.val / 32 % 4 := Pipeline.Grid.coords_val t 0 (by decide) rfl
    have e1 : (grid0.coords t 1).val = t.val / 1 % 32 := Pipeline.Grid.coords_val t 1 (by decide) rfl
    simp only [k0_cond1, e0, e1]
    word_cmp
   : ∀ t : Fin grid0.N, k0_cond1 (grid0.coords t) = 1#1 ↔ t.val < 32)

theorem live4 : ∀ t : Fin cfg0.N, t.val < 32 → cfg0.idle 4 (grid0.coords t) = false :=
  (by decide +kernel : ∀ t : Fin grid0.N, _)
theorem idle4 : ∀ t : Fin cfg0.N, 31 < t.val → cfg0.idle 4 (grid0.coords t) = true :=
  (by decide +kernel : ∀ t : Fin grid0.N, _)
theorem flush4 : ∀ t : Fin cfg0.N, 31 ≤ t.val → t.val + 1 < 128 → (cfg0.win 4).flush t = false :=
  (by decide +kernel : ∀ t : Fin grid0.N, _)

/-- The body on whole buffers: the product is stored, and the side block is cast where the point says so. -/
theorem run (c : Dev nD) (i : grid0.Coords) (arg2 : Memref sig .tc .vmem S2048x4096 .bf16) (harg2 : arg2.IsWhole) (arg3 : Memref sig .tc .vmem S1x4096x256 .f32) (harg3 : arg3.IsWhole) (arg4 : Memref sig .tc .vmem S1x256x4096 .f32) (harg4 : arg4.IsWhole) (arg5 : Memref sig .tc .vmem S2048x256 .bf16) (harg5 : arg5.IsWhole) (arg6 : Memref sig .tc .vmem S256x4096 .bf16) (harg6 : arg6.IsWhole)
    (x0 : Vec F S2048x4096 .bf16) (x1 : Vec F S1x4096x256 .f32) (x2 : Vec F S1x256x4096 .f32) (x4 : Vec F S256x4096 .bf16) (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare x4
        ∗ (iprop(owns (c : Thread nD τ) arg2 fullShare x0 ∗ owns (c : Thread nD τ) arg3 fullShare x1 ∗ owns (c : Thread nD τ) arg4 fullShare x2 ∗ owns (c : Thread nD τ) arg5 fullShare (k0_pay2 x0 x1) ∗ owns (c : Thread nD τ) arg6 fullShare (if k0_cond1 i = 1#1 then k0_pay1 x2 else x4)) -∗ K ⟨⟩))
      ⊢ wp frame (wpE (defs₀ (F := F)) Variants.none c none) E (cc0_in_proj_merge_gates i arg2 harg2 arg3 harg3 arg4 harg4 arg5 harg5 arg6 harg6) K := by
  simp only [cc0_in_proj_merge_gates_eq_skeleton]; unfold cc0_in_proj_merge_gates_skel
  unfold owns
  iintro ⟨⟨%f0, %hf0, H0⟩, ⟨%f1, %hf1, H1⟩, ⟨%f2, %hf2, H2⟩, ⟨%d3, %f3, -, H3⟩, ⟨%f4, %hf4, H4⟩, Hk⟩
  by_cases hc0 : k0_cond1 i = 1#1
  · rw [if_pos hc0]
    sl_exec (disch := first | sl_exact hc0)
    sl_step
    iapply Hk
    isplitl [H0]; · iexists _; isplitr; · ipureintro; exact hf0
                    iexact H0
    isplitl [H1]; · iexists _; isplitr; · ipureintro; exact hf1
                    iexact H1
    isplitl [H2]; · iexists _; isplitr; · ipureintro; exact hf2
                    iexact H2
    isplitl [H3]
    · iexists _; isplitr
      swap; · iexact H3
      ipureintro
      refine (View.read_writes_full _ _ _ _ _).trans ?_
      rw [View.readAt_full, View.readAt_full, hf0, hf1]
    iexists _; isplitr
    swap; · iexact H4
    ipureintro
    refine (View.read_writes_full _ _ _ _ _).trans ?_
    rw [View.readAt_full, hf2]
  · rw [if_neg hc0]
    sl_exec (disch := first | sl_exact hc0)
    sl_step
    iapply Hk
    isplitl [H0]; · iexists _; isplitr; · ipureintro; exact hf0
                    iexact H0
    isplitl [H1]; · iexists _; isplitr; · ipureintro; exact hf1
                    iexact H1
    isplitl [H2]; · iexists _; isplitr; · ipureintro; exact hf2
                    iexact H2
    isplitl [H3]
    · iexists _; isplitr
      swap; · iexact H3
      ipureintro
      refine (View.read_writes_full _ _ _ _ _).trans ?_
      rw [View.readAt_full, View.readAt_full, hf0, hf1]
    iexists _; isplitr; · ipureintro; exact hf4
    iexact H4

/-- What the buffers hold after each point. -/
def dats (_ : Fin 1) (c : Dev nD) : Dat τ (Elt F) Unit ℕ (UR sig nD τ) ℕ cfg0 c where
  A w := V m c (Pipeline.arrRef spec0 w)
  after w t := match w with
    | ⟨0, _⟩ => toks0 m c t
    | ⟨1, _⟩ => iblk m c 1 t
    | ⟨2, _⟩ => iblk m c 2 t
    | ⟨3, _⟩ => k0_pay2 (toks0 m c t) (iblk m c 1 t)
    | ⟨4, _⟩ => k0_pay1 (iblk m c 2 (side t))
  Φ _ := Pipeline.ΦA spec0 c
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = toks0 m c t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = k0_pay2 (toks0 m c t) (iblk m c 1 t) := by dsimp only [dats]
theorem after_4 (c : Dev nD) (t : Fin cfg0.N) : (dats m 0 c).after 4 t = k0_pay1 (iblk m c 2 (side t)) := by dsimp only [dats]

/-- An input's buffer holds its block at every point. -/
theorem before_0 (c : Dev nD) (t : Fin cfg0.N) (d) : (dats m 0 c).before 0 t d = toks0 m c t :=
  ((dats m 0 c).before_in_eq_fetched 0 rfl (fun _ => rfl)
      (fun t t' h => funext fun a => congrArg (fun n => Pipeline.Clip.of n ((cfg0.win 0).size a) (S9216x4096.size a)) (congrFun h a))
      (fun t => by rw [after_0]; unfold toks0; rw [Pipeline.Window.cut_fill]; unfold Dat.blockOf iblk; rw [A_eq]; try rfl) t d).trans
    (by unfold Dat.fetched toks0; rw [fill0 t d (fun _ => Classical.choice inferInstance)]; unfold Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)

theorem side_last (t : Fin cfg0.N) (h : 31 ≤ t.val) : side t = ⟨31, Nat.lt_of_le_of_lt h t.isLt⟩ :=
  Fin.ext (Nat.min_eq_right h)
theorem side_self (t : Fin cfg0.N) (h : t.val < 32) : side t = t :=
  Fin.ext (Nat.min_eq_left (Nat.le_of_lt_succ h))

/-- Past the last cast the buffer still holds the last block. -/
theorem before_4 (c : Dev nD) (t : Fin cfg0.N) (h : 31 < t.val) (d) : (dats m 0 c).before 4 t d = (dats m 0 c).after 4 t := by
  have hb : 31 < cfg0.N := Nat.lt_trans h t.isLt
  refine (Cert.Idle.before_eq (dats m 0 c) 4 rfl (fun _ _ => rfl) ⟨31, hb⟩ (live4 _ (Nat.lt_succ_self 31)) (fun t h => idle4 t h)
    (fun t h h' => flush4 t h (Nat.lt_of_lt_of_eq h' N_0)) d t.val t.isLt h).trans ?_
  rw [after_4, after_4, side_last t (Nat.le_of_lt h)]
  rfl

/-- A point past the last cast leaves what it found. -/
theorem leaves_late (c : Dev nD) (t : Fin cfg0.N) (h : 31 < t.val) (d) :
    owns (c : Thread nD τ) (win0_4.stage (cfg0.slots t 4)) fullShare ((dats m 0 c).before 4 t d) ⊢ ((dats m 0 c).leavesExact 4 t : sProp 𝕄) := by
  cases hf : (cfg0.win 4).flush t
  · rw [Dat.leavesExact_idle (dats m 0 c) 4 t (idle4 t h) hf]
    iintro H; iexists _; iexact H
  · rw [show (dats m 0 c).leavesExact 4 t = owns (c : Thread nD τ) (win0_4.stage (cfg0.slots t 4)) fullShare ((dats m 0 c).after 4 t) from by
      unfold Dat.leavesExact; rw [idle4 t h, hf], before_4 m c t h d]

/-- A point that casts leaves the cast block. -/
theorem leaves_early (c : Dev nD) (t : Fin cfg0.N) (h : t.val < 32) :
    owns (c : Thread nD τ) (win0_4.stage (cfg0.slots t 4)) fullShare (k0_pay1 (iblk m c 2 t)) ⊢ ((dats m 0 c).leavesExact 4 t : sProp 𝕄) := by
  rw [show (dats m 0 c).leavesExact 4 t = owns (c : Thread nD τ) (win0_4.stage (cfg0.slots t 4)) fullShare ((dats m 0 c).after 4 t) from by
    unfold Dat.leavesExact; rw [live4 t h], after_4, side_self t h]

/-- What the body is called with at a point. -/
def pre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d)))

/-- What it returns. -/
def post (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

set_option maxHeartbeats 800000 in
/-- The body at any point. -/
theorem sound (c : Dev nD) (t : Fin cfg0.N) :
    pre m c t ⊢ wp frame (wpE (defs₀ (F := F)) Variants.none c none) Set.univ (bodyAt0 t) (fun _ => post m c t) := by
  unfold pre post bodyAt0
  simp only [before_0, before_1, before_2]
  rw [show (dats m 0 c).Φ t.succ = (dats m 0 c).Φ t.castSucc from rfl,
    show (dats m 0 c).owesAt () t.succ = (dats m 0 c).owesAt () t.castSucc from rfl,
    show (dats m 0 c).leavesExact 0 t = owns (c : Thread nD τ) (win0_0.stage (cfg0.slots t 0)) fullShare ((dats m 0 c).after 0 t) from rfl,
    show (dats m 0 c).leavesExact 1 t = owns (c : Thread nD τ) (win0_1.stage (cfg0.slots t 1)) fullShare ((dats m 0 c).after 1 t) from rfl,
    show (dats m 0 c).leavesExact 2 t = owns (c : Thread nD τ) (win0_2.stage (cfg0.slots t 2)) fullShare ((dats m 0 c).after 2 t) from rfl,
    show (dats m 0 c).leavesExact 3 t = owns (c : Thread nD τ) (win0_3.stage (cfg0.slots t 3)) fullShare ((dats m 0 c).after 3 t) from rfl,
    after_0, after_1, after_2, after_3]
  iintro ⟨HΦ, Ho, ⟨%d0, H0⟩, ⟨%d1, H1⟩, ⟨%d2, H2⟩, ⟨%d3, H3⟩, ⟨%d4, H4⟩⟩
  iapply (run c (grid0.coords t) _ _ _ _ _ _ _ _ _ _ (toks0 m c t) (iblk m c 1 t) (iblk m c 2 t) ((dats m 0 c).before 4 t d4) Set.univ _)
  isplitl [H0]; · iexact H0
  isplitl [H1]; · iexact H1
  isplitl [H2]; · iexact H2
  isplitl [H3]; · iexists _; iexact H3
  isplitl [H4]; · iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  by_cases h : t.val < 32
  · rw [if_pos ((casts t).mpr h)]
    iapply (leaves_early m c t h)
    iexact H4
  · rw [if_neg (fun g => h ((casts t).mp g))]
    iapply (leaves_late m c t (Nat.lt_of_not_le fun g => h (Nat.lt_succ_of_le g)) d4)
    iexact H4

theorem row (t : Fin cfg0.N) : defs₀ (F := F) .tc cfg0.body (cfg0.bodyArgs t (cfg0.slots t)) = bodyAt0 t := by
  unfold defs₀; rw [Defs.onTc_tc]

/-- The body at every point, as the pipeline asks for it. -/
theorem obligation (c : Dev nD) : BodyObligation (dats (F := F) m 0 c) (defs₀ (F := F)) Variants.none () Set.univ := fun t => by
  rw [bigSep_W0, bigSep_W0, row]
  exact triple_restated (sound m c t) rfl .rfl fun _ => .rfl

set_option backward.isDefEq.respectTransparency.types false in
/-- The program ends, with every array as the windows leave it and every counter at zero. -/
theorem run_quiet : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hΦ := fun _ _ => rfl)

/-- The two results after the run, and the arguments as they were. -/
theorem run_main : θ_run defs (onTc (τ := τ) (main (F := F))) ⟨m, fun _ => 0, ρ⟩ (fun r => (∀ c : Dev nD,
      r.2.mem ((c.tc : Thread nD τ).loc main_v1_0) = (dats m 0 c).arrAt 3 cfg0.N
      ∧ r.2.mem ((c.tc : Thread nD τ).loc main_v1_1) = (dats m 0 c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨(h.1 c).1 3, (h.1 c).1 4,
      ((h.1 c).2 main_arg0 (Pipeline.mem_restRefs_of main_arg0 (by decide) (by decide))).trans (V_arg m c main_arg0 (by decide)),
      ((h.1 c).1 1).trans (((dats m 0 c).arrAt_in 1 rfl _).trans ((A_eq m c 1).trans (V_arg m c main_arg1 (by decide)))),
      ((h.1 c).1 2).trans (((dats m 0 c).arrAt_in 2 rfl _).trans ((A_eq m c 2).trans (V_arg m c main_arg2 (by decide))))⟩, h.2⟩)
    (run_quiet m ρ)

end Cert.Kernel9Ideal.Merge
end
-- ==== Proof.Merge.lean ====
/-
  The input projection's gates for the merge of the two mixers: the kernel's first array is those columns of the product, its second
  the cast weights of the first mixer's output projection.
-/
module

public import proofs.«01_k».proof.Proof.MergeRun
public import proofs.«01_k».proof.Proof.Gen.Reference9Ideal.Run
public import Idealize.ShloMosaic.Lib.Pipeline.ValueKit
public import Idealize.ShloMosaic.Lib.Claim

@[expose] public section

set_option maxRecDepth 16384
noncomputable section
open Idealize.ShloMosaic Idealize.ShloMosaic.TcCoe Idealize.SL.Sem
namespace Cert.Kernel9Ideal.Mm
open Cert.Kernel9Ideal Cert.Kernel9Ideal.Gen Cert.Kernel9Ideal.Merge
variable (m : (ℓ : Loc nD τ sig) → Buf (Elt Ideal) ℓ)

/-- What the body stores is the product of its blocks. -/
theorem body_at (X : Vec Ideal S2048x4096 .bf16) (W : Vec Ideal S1x4096x256 .f32) (y : S2048x256.Idx) :
    (k0_pay2 X W y : EReal) = ∑ k : Fin 4096, (X (ix2 (y 0) k) : EReal) * W (ix3 0 k (y 1)) := by
  pointwise [k0_pay2]

/-- What the body casts. -/
theorem cast_at (B : Vec Ideal S1x256x4096 .f32) (y : S256x4096.Idx) : (k0_pay1 B y : EReal) = B (ix3 0 (y 0) (y 1)) := by
  pointwise [k0_pay1]

/-- The tokens. -/
abbrev A (c : Dev nD) : S9216x4096.Idx → EReal := m ((c : Thread nD τ).loc main_arg0)
/-- The weights of the input projection. -/
abbrev B (c : Dev nD) : S1x4096x37632.Idx → EReal := m ((c : Thread nD τ).loc main_arg1)
/-- The weights of the first mixer's output projection. -/
abbrev D (c : Dev nD) : S1x8192x4096.Idx → EReal := m ((c : Thread nD τ).loc main_arg2)

/-- The first array the call returns. -/
def prod (c : Dev nD) : S8192x8192.Idx → Ideal .bf16 := fun j =>
  ∑ k : Fin 4096, A m c (ix2 ⟨(j 0).val, by have h : (j 0).val < 8192 := (j 0).isLt; omega⟩ k)
    * B m c (ix3 0 k ⟨29440 + (j 1).val, by have h : (j 1).val < 8192 := (j 1).isLt; omega⟩)
/-- The second. -/
def outw (c : Dev nD) : S8192x4096.Idx → Ideal .bf16 := fun j => D m c (ix3 0 (j 0) (j 1))

/-- Where the windows' blocks lie at a grid point. -/
theorem idx : ∀ t : Fin cfg0.N, win0_0.index t = ![t.val / 32, 0] ∧ win0_1.index t = ![0, 0, 115 + t.val % 32] ∧ win0_2.index t = ![0, min t.val 31, 0]
    ∧ win0_3.index t = ![t.val / 32, t.val % 32] ∧ win0_4.index t = ![min t.val 31, 0] :=
  (by decide +kernel : ∀ t : Fin grid0.N, _)

/-- The cast tokens. -/
theorem v_toks (c : Dev nD) (i : S9216x4096.Idx) : (V m c main_v0 : S9216x4096.Idx → Ideal .bf16) i = A m c i := by
  simp only [V, hostOps0, List.flatten_cons, List.flatten_nil, List.append_nil, List.cons_append, List.nil_append]
  after_results
  rfl

/-- The rows of tokens a grid point reads. -/
theorem toks (c : Dev nD) (t : Fin cfg0.N) (r : Fin 2048) (k : Fin 4096) (R : Fin 9216) (h : R.val = t.val / 32 * 2048 + r.val) :
    (toks0 m c t (ix2 r k) : EReal) = A m c (ix2 R k) := by
  refine Eq.trans ?_ (v_toks m c (ix2 R k))
  unfold toks0 Pipeline.Window.fill
  refine (dif_pos (whole0 t _)).trans ?_
  unfold iblk
  have key : ∀ Z : (S9216x4096.Idx → Ideal .bf16), ((cfg0.win 0).blk t).view.read (Elt Ideal) Z (fun a => ⟨((ix2 r k : (cfg0.win 0).block.Idx) a).val, ((cfg0.win 0).moved_iff _ _).mp (whole0 t _) a⟩) = Z (ix2 R k) := by
    intro Z
    blk_ext [idx t]
  exact key _

/-- The columns of weights a grid point reads. -/
theorem weights (c : Dev nD) (t : Fin cfg0.N) (k : Fin 4096) (n : Fin 256) (C : Fin 37632) (h : C.val = 29440 + (t.val % 32 * 256 + n.val)) :
    (iblk m c 1 t (ix3 0 k n) : EReal) = B m c (ix3 0 k C) := by
  refine Eq.trans ?_ (congrFun (V_arg m c main_arg1 (by decide)) (ix3 0 k C))
  unfold iblk
  have key : ∀ Z : (S1x4096x37632.Idx → Ideal .f32), ((cfg0.win 1).blk t).view.read (Elt Ideal) Z (ix3 0 k n) = Z (ix3 0 k C) := by
    intro Z
    blk_ext [idx t]
  exact key _

/-- The rows of the output projection's weights a grid point reads. -/
theorem outs (c : Dev nD) (t : Fin cfg0.N) (r : Fin 256) (k : Fin 4096) (R : Fin 8192) (h : R.val = min t.val 31 * 256 + r.val) :
    (iblk m c 2 t (ix3 0 r k) : EReal) = D m c (ix3 0 R k) := by
  refine Eq.trans ?_ (congrFun (V_arg m c main_arg2 (by decide)) (ix3 0 R k))
  unfold iblk
  have key : ∀ Z : (S1x8192x4096.Idx → Ideal .f32), ((cfg0.win 2).blk t).view.read (Elt Ideal) Z (ix3 0 r k) = Z (ix3 0 R k) := by
    intro Z
    blk_ext [idx t]
  exact key _

/-- Where a stored entry lies in the first array. -/
theorem place (t : Fin cfg0.N) (y : S2048x256.Idx) :
    ((((cfg0.win 3).blk t).view.emb y : S8192x8192.Idx) 0).val = t.val / 32 * 2048 + (y 0).val
    ∧ ((((cfg0.win 3).blk t).view.emb y : S8192x8192.Idx) 1).val = t.val % 32 * 256 + (y 1).val := by
  constructor
  all_goals
    blk_simp [idx t]
    try omega

/-- Where a cast entry lies in the second. -/
theorem place_outw (t : Fin cfg0.N) (y : S256x4096.Idx) :
    ((((cfg0.win 4).blk t).view.emb y : S8192x4096.Idx) 0).val = min t.val 31 * 256 + (y 0).val
    ∧ ((((cfg0.win 4).blk t).view.emb y : S8192x4096.Idx) 1).val = (y 1).val := by
  constructor
  all_goals
    blk_simp [idx t]
    try omega

/-- The first array after the run is the columns of the product. -/
theorem final (c : Dev nD) : (dats m 0 c).arrAt 3 cfg0.N = prod m c := by
  refine (dats m 0 c).arrAt_eq_of_covers 3 (prod m c) (by decide +kernel) fun t hf y => ?_
  have he : (dats m 0 c).after 3 t = k0_pay2 (toks0 m c t) (iblk m c 1 t) := after_3 m c t
  refine (congrFun he y).trans ((body_at _ _ y).trans ?_)
  unfold prod
  obtain ⟨hr, hc⟩ := place t y
  refine Finset.sum_congr rfl fun k _ => ?_
  exact congrArg₂ (fun a b : EReal => a * b) (toks m c t _ k _ hr) (weights m c t k _ _ (congrArg (fun n => 29440 + n) hc))

/-- The second array after the run is the cast weights. -/
theorem final_outw (c : Dev nD) : (dats m 0 c).arrAt 4 cfg0.N = outw m c := by
  refine (dats m 0 c).arrAt_eq_of_covers 4 (outw m c) (by decide +kernel) fun t hf y => ?_
  have he : (dats m 0 c).after 4 t = k0_pay1 (iblk m c 2 (side t)) := after_4 m c t
  refine (congrFun he y).trans ((cast_at _ y).trans ?_)
  obtain ⟨hr, hc⟩ := place_outw t y
  have hs : (side t).val = min t.val 31 := rfl
  refine (outs m c (side t) (y 0) (y 1) (((cfg0.win 4).blk t).view.emb y 0) ?_).trans ?_
  · rw [hs, Nat.min_assoc, Nat.min_self]; exact hr
  · exact congrArg (fun n : Fin 4096 => D m c (ix3 0 (((cfg0.win 4).blk t).view.emb y 0) n)) (Fin.ext hc.symm)

/-- The run with its two results named. -/
theorem run_named (ρ : Dev nD → PrngReg) : θ_run defs (onTc (τ := τ) (main (F := Ideal))) ⟨m, fun _ => 0, ρ⟩ (fun r => ∀ c : Dev nD,
      r.2.mem ((c.tc : Thread nD τ).loc main_v1_0) = (dats m 0 c).arrAt 3 cfg0.N
      ∧ r.2.mem ((c.tc : Thread nD τ).loc main_v1_1) = (dats m 0 c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h => h.1) (run_main m ρ)

end Cert.Kernel9Ideal.Mm

namespace Cert.Reference9Ideal.Mm
open Cert.Reference9Ideal Cert.Reference9Ideal.Gen

/-- The reference's first result at an index. -/
theorem returned (A : S9216x4096.Idx → Ideal .f32) (B : S1x4096x37632.Idx → Ideal .f32) (j : S8192x8192.Idx) :
    (truncf (F := Ideal) .bf16 (extractStridedSlice S8192x8192 ![0, 29440] (Host.dotGeneral dot_S8192x4096_S4096x37632_S8192x37632_1_0_0_1_n_n none (extractStridedSlice S8192x4096 ![0, 0] A slices_S9216x4096_S8192x4096_0_0) (shapeCast _ B shapeCasts_S1x4096x37632_S4096x37632)) slices_S8192x37632_S8192x8192_0_29440) bitsLt_bf16_f32 j : EReal)
      = ∑ k : Fin 4096, (A (ix2 ⟨(j 0).val, by have h : (j 0).val < 8192 := (j 0).isLt; omega⟩ k) : EReal) * B (ix3 0 k ⟨29440 + (j 1).val, by have h : (j 1).val < 8192 := (j 1).isLt; omega⟩) := by
  pointwise []

/-- The reference's cast weights at an index. -/
theorem cast_at (D : S1x8192x4096.Idx → Ideal .f32) (j : S8192x4096.Idx) :
    (truncf (F := Ideal) .bf16 (shapeCast S8192x4096 D shapeCasts_S1x8192x4096_S8192x4096) bitsLt_bf16_f32 j : EReal) = D (ix3 0 (j 0) (j 1)) := by
  pointwise []

end Cert.Reference9Ideal.Mm
end
-- ==== Proof.InRg.lean ====
/-
  The input projection's columns for the second mixer, each of its 16 heads padded from 336 columns to 384: the kernel's array is those
  columns of the product, and zero in the padding.
-/
module

public import proofs.«01_k».proof.Proof.Gen.Kernel10Ideal.Value
public import proofs.«01_k».proof.Proof.Gen.Reference10Ideal.Run
public import Idealize.ShloMosaic.Lib.Pipeline.ValueKit
public import Idealize.ShloMosaic.Lib.Claim
public import proofs.«01_k».proof.Proof.Gate

@[expose] public section

set_option maxRecDepth 16384
noncomputable section
open Idealize.ShloMosaic Idealize.ShloMosaic.TcCoe Idealize.SL.Sem
namespace Cert.Kernel10Ideal.Mm
open Cert.Kernel10Ideal Cert.Kernel10Ideal.Gen Cert.Rglru
variable (m : (ℓ : Loc nD τ sig) → Buf (Elt Ideal) ℓ)

/-- What the body stores is the product of its two blocks. -/
theorem body_at (X : Vec Ideal S1024x4096 .bf16) (W : Vec Ideal S4096x1024 .bf16) (y : S1024x1024.Idx) :
    (out0_2 X W y : EReal) = ∑ k : Fin 4096, (X (ix2 (y 0) k) : EReal) * W (ix2 k (y 1)) := by
  frame_out
  pointwise [k0_pay1]

/-- The tokens. -/
abbrev A (c : Dev nD) : S9216x4096.Idx → EReal := m ((c : Thread nD τ).loc main_arg0)
/-- The weights of the input projection. -/
abbrev B (c : Dev nD) : S1x4096x37632.Idx → EReal := m ((c : Thread nD τ).loc main_arg1)

/-- The padded columns of the product. -/
def padded (A : S9216x4096.Idx → EReal) (B : S1x4096x37632.Idx → EReal) : S9216x6144.Idx → EReal := fun j =>
  if h : (j 1).val % 384 < 336 then
    ∑ k : Fin 4096, A (ix2 (j 0) k) * B (ix3 0 k ⟨24064 + ((j 1).val / 384 * 336 + (j 1).val % 384), by have h : (j 1).val < 6144 := (j 1).isLt; omega⟩)
  else 0

/-- The array the call returns. -/
def prod (c : Dev nD) : S9216x6144.Idx → Ideal .bf16 := padded (A m c) (B m c)

/-- Where the windows' blocks lie at a grid point. -/
theorem idx : ∀ t : Fin cfg0.N, win0_0.index t = ![t.val / 6, 0] ∧ win0_1.index t = ![0, t.val % 6] ∧ win0_2.index t = ![t.val / 6, t.val % 6] :=
  (by decide +kernel : ∀ t : Fin grid0.N, _)

/-- The cast tokens. -/
theorem v_toks (c : Dev nD) (i : S9216x4096.Idx) : (V m c main_v0 : S9216x4096.Idx → Ideal .bf16) i = A m c i := by
  simp only [V, hostOps0, hostOps0_1, hostOps0_2, List.flatten_cons, List.flatten_nil, List.append_nil, List.cons_append, List.nil_append]
  after_results
  rfl

/-- The padded weights. -/
theorem v_weights (c : Dev nD) (k : Fin 4096) (C : Fin 6144) :
    (V m c main_v6 : S4096x6144.Idx → Ideal .bf16) (ix2 k C)
      = if h : C.val % 384 < 336 then B m c (ix3 0 k ⟨24064 + (C.val / 384 * 336 + C.val % 384), by omega⟩) else (0 : EReal) := by
  obtain ⟨R, hR⟩ : ∃ R : EReal, R = (if h : C.val % 384 < 336 then B m c (ix3 0 k ⟨24064 + (C.val / 384 * 336 + C.val % 384), by omega⟩) else (0 : EReal)) := ⟨_, rfl⟩
  rw [← hR]
  simp only [V, hostOps0, hostOps0_1, hostOps0_2, List.flatten_cons, List.flatten_nil, List.append_nil, List.cons_append, List.nil_append]
  after_results
  simp only [StableHlo.TRef.toBuf, StableHlo.TRef.ofBuf, cast_eq]
  pointwise []
  rw [hR]
  clear hR
  by_cases h : C.val % 384 < 336
  · refine (dif_pos ⟨by omega, by omega⟩).trans ?_
    refine Eq.trans ?_ (dif_pos h).symm
    rfl
  · refine (dif_neg (fun g => h (by omega))).trans ?_
    refine Eq.trans ?_ (dif_neg h).symm
    exact pad_zero _

/-- The rows of tokens a grid point reads. -/
theorem toks (c : Dev nD) (t : Fin cfg0.N) (r : Fin 1024) (k : Fin 4096) (R : Fin 9216) (h : R.val = t.val / 6 * 1024 + r.val) :
    (iblk m c 0 t (ix2 r k) : EReal) = A m c (ix2 R k) := by
  refine Eq.trans ?_ (v_toks m c (ix2 R k))
  unfold iblk
  have key : ∀ Z : (S9216x4096.Idx → Ideal .bf16), ((cfg0.win 0).blk t).view.read (Elt Ideal) Z (ix2 r k) = Z (ix2 R k) := by
    intro Z
    blk_ext [idx t]
  exact key _

/-- The columns of padded weights a grid point reads. -/
theorem weights (c : Dev nD) (t : Fin cfg0.N) (k : Fin 4096) (n : Fin 1024) (C : Fin 6144) (h : C.val = t.val % 6 * 1024 + n.val) :
    (iblk m c 1 t (ix2 k n) : EReal) = (V m c main_v6 : S4096x6144.Idx → Ideal .bf16) (ix2 k C) := by
  unfold iblk
  have key : ∀ Z : (S4096x6144.Idx → Ideal .bf16), ((cfg0.win 1).blk t).view.read (Elt Ideal) Z (ix2 k n) = Z (ix2 k C) := by
    intro Z
    blk_ext [idx t]
  exact key _

/-- Where a stored entry lies in the array. -/
theorem place (t : Fin cfg0.N) (y : S1024x1024.Idx) :
    ((((cfg0.win 2).blk t).view.emb y : S9216x6144.Idx) 0).val = t.val / 6 * 1024 + (y 0).val
    ∧ ((((cfg0.win 2).blk t).view.emb y : S9216x6144.Idx) 1).val = t.val % 6 * 1024 + (y 1).val := by
  constructor
  all_goals
    blk_simp [idx t]
    try omega

/-- The product with the padded weights is the padded product. -/
theorem sum_padded (c : Dev nD) (j : S9216x6144.Idx) :
    (∑ k : Fin 4096, A m c (ix2 (j 0) k) * (V m c main_v6 : S4096x6144.Idx → EReal) (ix2 k (j 1))) = padded (A m c) (B m c) j := by
  unfold padded
  refine (Finset.sum_congr rfl fun k _ => congrArg (fun b : EReal => A m c (ix2 (j 0) k) * b) (v_weights m c k (j 1))).trans ?_
  by_cases h : (j 1).val % 384 < 336
  · refine Eq.trans ?_ (dif_pos h).symm
    refine Finset.sum_congr rfl fun k _ => ?_
    exact congrArg (fun b : EReal => A m c (ix2 (j 0) k) * b) (dif_pos h)
  · refine Eq.trans ?_ (dif_neg h).symm
    refine Finset.sum_eq_zero fun k _ => ?_
    exact (congrArg (fun b : EReal => A m c (ix2 (j 0) k) * b) (dif_neg h)).trans (mul_zero _)

/-- The array after the run is the padded columns of the product. -/
theorem final (c : Dev nD) : (dats m 0 c).arrAt 2 cfg0.N = prod m c := by
  refine (dats m 0 c).arrAt_eq_of_covers 2 (prod m c) (by decide +kernel) fun t hf y => ?_
  have he : (dats m 0 c).after 2 t = out0_2 (iblk m c 0 t) (iblk m c 1 t) := after0_2 m c t
  refine (congrFun he y).trans ((body_at _ _ y).trans ?_)
  obtain ⟨hr, hc⟩ := place t y
  refine Eq.trans ?_ (sum_padded m c (((cfg0.win 2).blk t).view.emb y))
  exact Finset.sum_congr rfl fun k _ => congrArg₂ (fun a b : EReal => a * b) (toks m c t _ k _ hr) (weights m c t k _ _ hc)

end Cert.Kernel10Ideal.Mm

namespace Cert.Reference10Ideal.Mm
open Cert.Reference10Ideal Cert.Reference10Ideal.Gen Cert.Kernel10Ideal.Mm Cert.Rglru

/-- The product of the tokens and all the columns of weights. -/
theorem dot_at (A : S9216x4096.Idx → Ideal .f32) (B : S1x4096x37632.Idx → Ideal .f32) (j : S9216x37632.Idx) :
    ((Host.dotGeneral (F := Ideal) dot_S9216x4096_S4096x37632_S9216x37632_1_0_0_1_n_n none A (shapeCast _ B shapeCasts_S1x4096x37632_S4096x37632) : S9216x37632.Idx → Ideal .f32) j : EReal)
      = ∑ k : Fin 4096, (A (ix2 (j 0) k) : EReal) * B (ix3 0 k (j 1)) := by
  pointwise []

/-- The reference's padded columns at an index, of any product. -/
theorem cut_pad (P : S9216x37632.Idx → Ideal .f32) (j : S9216x6144.Idx) :
    (shapeCast S9216x6144 (pad S9216x16x384 ![0, 0, 0] ![0, 0, 48] ![0, 0, 0] (shapeCast S9216x16x336 (truncf (F := Ideal) .bf16 (extractStridedSlice S9216x5376 ![0, 24064] P slices_S9216x37632_S9216x5376_0_24064) bitsLt_bf16_f32) shapeCasts_S9216x5376_S9216x16x336) (sitofp (F := Ideal) .bf16 (constantI S_ 32 0#32)) pads_S9216x16x336_S9216x16x384_000_000_0480 h_S_) shapeCasts_S9216x16x384_S9216x6144 j : EReal)
      = if h : (j 1).val % 384 < 336 then (P (ix2 (j 0) ⟨24064 + ((j 1).val / 384 * 336 + (j 1).val % 384), by have h : (j 1).val < 6144 := (j 1).isLt; omega⟩) : EReal) else (0 : EReal) := by
  have hl : (j 1).val < 6144 := (j 1).isLt
  obtain ⟨R, hR⟩ : ∃ R : EReal, R = (if h : (j 1).val % 384 < 336 then (P (ix2 (j 0) ⟨24064 + ((j 1).val / 384 * 336 + (j 1).val % 384), by omega⟩)  : EReal) else (0 : EReal)) := ⟨_, rfl⟩
  refine Eq.trans ?_ hR
  pointwise []
  rw [hR]
  clear hR
  by_cases h : (j 1).val % 384 < 336
  · refine (dif_pos ⟨by omega, by omega⟩).trans ?_
    refine Eq.trans ?_ (dif_pos h).symm
    rfl
  · refine (dif_neg (fun g => h (by omega))).trans ?_
    refine Eq.trans ?_ (dif_neg h).symm
    exact pad_zero _

/-- The reference's result at an index. -/
theorem returned (A : S9216x4096.Idx → Ideal .f32) (B : S1x4096x37632.Idx → Ideal .f32) (j : S9216x6144.Idx) :
    (shapeCast S9216x6144 (pad S9216x16x384 ![0, 0, 0] ![0, 0, 48] ![0, 0, 0] (shapeCast S9216x16x336 (truncf (F := Ideal) .bf16 (extractStridedSlice S9216x5376 ![0, 24064] (Host.dotGeneral dot_S9216x4096_S4096x37632_S9216x37632_1_0_0_1_n_n none A (shapeCast _ B shapeCasts_S1x4096x37632_S4096x37632)) slices_S9216x37632_S9216x5376_0_24064) bitsLt_bf16_f32) shapeCasts_S9216x5376_S9216x16x336) (sitofp (F := Ideal) .bf16 (constantI S_ 32 0#32)) pads_S9216x16x336_S9216x16x384_000_000_0480 h_S_) shapeCasts_S9216x16x384_S9216x6144 j : EReal)
      = padded A B j := by
  refine (cut_pad _ j).trans ?_
  unfold padded
  by_cases h : (j 1).val % 384 < 336
  · refine (dif_pos h).trans (Eq.trans ?_ (dif_pos h).symm)
    exact dot_at A B _
  · rw [dif_neg h, dif_neg h]

end Cert.Reference10Ideal.Mm
end
-- ==== Proof.lean ====
/-
  The certificate: the frames of the programs, the preservation of the kernels' programs, and the equality of the idealized kernels with the
  idealized references.
-/
module

public import proofs.«01_k».proof.Proof.Gen.KernelIdeal.Value
public import proofs.«01_k».proof.Proof.Gen.ReferenceIdeal.Run
public import proofs.«01_k».proof.Proof.Carry
public import proofs.«01_k».proof.Proof.RefOut
public import proofs.«01_k».proof.Proof.Down
public import proofs.«01_k».proof.Proof.InXbc
public import proofs.«01_k».proof.Proof.InZ
public import proofs.«01_k».proof.Proof.SsdOut
public import proofs.«01_k».proof.Proof.RgOut
public import proofs.«01_k».proof.Proof.OutProj
public import proofs.«01_k».proof.Proof.Up
public import proofs.«01_k».proof.Proof.Merge
public import proofs.«01_k».proof.Proof.InRg
public import proofs.«01_k».proof.Defs
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Reference2Ideal
public import proofs.«01_k».proof.Proof.Gen.Reference2Ideal.Run
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Reference9Ideal
public import proofs.«01_k».proof.Proof.Gen.Reference9Ideal.Run
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import Idealize.ShloMosaic.Adequacy
public import Idealize.ShloMosaic.Init
public import Idealize.ShloMosaic.Lib.Claim

@[expose] public section

set_option maxRecDepth 16384

noncomputable section

namespace Cert.Proof

open Idealize.ShloMosaic Idealize.SL.Sem

/-- The reference's frame: it ends, and its arguments are unchanged. -/
theorem frame_ref : Cert.quiescent_ReferenceIdeal := fun m g _ =>
  (θ_run Cert.ReferenceIdeal.defs _ _).mono (fun r h => ⟨fun c => (h c).2, Idealize.ShloMosaic.sem_eq_zero_of_no_sems (by decide) r.2⟩)
    (Cert.ReferenceIdeal.Value.run m g)

/-- The two programs' arguments are the same arguments of the recurrence. -/
theorem args_same (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    Cert.ReferenceIdeal.Loop.args m' c = Cert.KernelIdeal.Point.args m c := by
  unfold Cert.ReferenceIdeal.Loop.args Cert.KernelIdeal.Point.args
  rw [h0, h1, h2, h3, h4, h5, h6]

/-- Over the extended reals the kernel and the reference return the same array. -/
theorem algebraic : Cert.algebraic_KernelIdeal_ReferenceIdeal := by
  pair_intro
  · run_from Cert.KernelIdeal.Value.run_blocks m g
  · run_from Cert.ReferenceIdeal.Value.run m' g'
    refine (Cert.ReferenceIdeal.Loop.returned m' c).trans ?_
    obtain ⟨h0, h1, h2, h3, h4, h5, h6⟩ := hagree c
    rw [args_same m m' c h0 h1 h2 h3 h4 h5 h6]
    exact (Cert.KernelIdeal.Point.final m c).symm

/-- The frame of the reference of the down projection. -/
theorem frame_ref3 : Cert.quiescent_Reference3Ideal := fun m g _ =>
  (θ_run Cert.Reference3Ideal.defs _ _).mono (fun r h => ⟨fun c => (h c).2, Idealize.ShloMosaic.sem_eq_zero_of_no_sems (by decide) r.2⟩)
    (Cert.Reference3Ideal.Value.run m g)

/-- Over the extended reals the down projection and its reference return the same array. -/
theorem algebraic3 : Cert.algebraic_Kernel3Ideal_Reference3Ideal := by
  pair_intro
  · run_from Cert.Kernel3Ideal.Value.run_blocks m g
  · run_from Cert.Reference3Ideal.Value.run m' g'
    refine Eq.trans ?_ (Cert.Kernel3Ideal.Mm.final m c).symm
    funext j
    refine (Cert.Reference3Ideal.Mm.returned _ _ j).trans ?_
    unfold Cert.Kernel3Ideal.Mm.prod
    rfl

/-- The frame of the reference of the input projection's columns of the first mixer. -/
theorem frame_ref4 : Cert.quiescent_Reference4Ideal := fun m g _ =>
  (θ_run Cert.Reference4Ideal.defs _ _).mono (fun r h => ⟨fun c => (h c).2, Idealize.ShloMosaic.sem_eq_zero_of_no_sems (by decide) r.2⟩)
    (Cert.Reference4Ideal.Value.run m g)

/-- Over the extended reals the input projection's columns of the first mixer and its reference return the same array. -/
theorem algebraic4 : Cert.algebraic_Kernel4Ideal_Reference4Ideal := by
  pair_intro
  · run_from Cert.Kernel4Ideal.Value.run_blocks m g
  · run_from Cert.Reference4Ideal.Value.run m' g'
    refine Eq.trans ?_ (Cert.Kernel4Ideal.Mm.final m c).symm
    funext j
    refine (Cert.Reference4Ideal.Mm.returned _ _ j).trans ?_
    unfold Cert.Kernel4Ideal.Mm.prod
    rfl

/-- The frame of the reference of the input projection's first columns. -/
theorem frame_ref5 : Cert.quiescent_Reference5Ideal := fun m g _ =>
  (θ_run Cert.Reference5Ideal.defs _ _).mono (fun r h => ⟨fun c => (h c).2, Idealize.ShloMosaic.sem_eq_zero_of_no_sems (by decide) r.2⟩)
    (Cert.Reference5Ideal.Value.run m g)

/-- Over the extended reals the input projection's first columns and its reference return the same array. -/
theorem algebraic5 : Cert.algebraic_Kernel5Ideal_Reference5Ideal := by
  pair_intro
  · run_from Cert.Kernel5Ideal.Value.run_blocks m g
  · run_from Cert.Reference5Ideal.Value.run m' g'
    refine Eq.trans ?_ (Cert.Kernel5Ideal.Mm.final m c).symm
    funext j
    refine (Cert.Reference5Ideal.Mm.returned _ _ j).trans ?_
    unfold Cert.Kernel5Ideal.Mm.prod
    rfl

/-- The frame of the reference of the first mixer's output projection. -/
theorem frame_ref6 : Cert.quiescent_Reference6Ideal := fun m g _ =>
  (θ_run Cert.Reference6Ideal.defs _ _).mono (fun r h => ⟨fun c => (h c).2, Idealize.ShloMosaic.sem_eq_zero_of_no_sems (by decide) r.2⟩)
    (Cert.Reference6Ideal.Value.run m g)

/-- Over the extended reals the first mixer's output projection and its reference return the same array. -/
theorem algebraic6 : Cert.algebraic_Kernel6Ideal_Reference6Ideal := by
  pair_intro
  · run_from Cert.Kernel6Ideal.Value.run_blocks m g
  · run_from Cert.Reference6Ideal.Value.run m' g'
    refine Eq.trans ?_ (Cert.Kernel6Ideal.Mm.final m c).symm
    funext j
    refine (Cert.Reference6Ideal.Mm.returned _ _ _ j).trans ?_
    unfold Cert.Kernel6Ideal.Mm.prod
    rfl

/-- The frame of the reference of the second mixer's output projection. -/
theorem frame_ref7 : Cert.quiescent_Reference7Ideal := fun m g _ =>
  (θ_run Cert.Reference7Ideal.defs _ _).mono (fun r h => ⟨fun c => (h c).2, Idealize.ShloMosaic.sem_eq_zero_of_no_sems (by decide) r.2⟩)
    (Cert.Reference7Ideal.Value.run m g)

/-- Over the extended reals the second mixer's output projection and its reference return the same array. -/
theorem algebraic7 : Cert.algebraic_Kernel7Ideal_Reference7Ideal := by
  pair_intro
  · run_from Cert.Kernel7Ideal.Value.run_blocks m g
  · run_from Cert.Reference7Ideal.Value.run m' g'
    refine Eq.trans ?_ (Cert.Kernel7Ideal.Mm.final m c).symm
    funext j
    refine (Cert.Reference7Ideal.Mm.returned _ _ _ _ j).trans ?_
    unfold Cert.Kernel7Ideal.Mm.prod
    rfl

/-- The frame of the reference of the output projection. -/
theorem frame_ref8 : Cert.quiescent_Reference8Ideal := fun m g _ =>
  (θ_run Cert.Reference8Ideal.defs _ _).mono (fun r h => ⟨fun c => (h c).2, Idealize.ShloMosaic.sem_eq_zero_of_no_sems (by decide) r.2⟩)
    (Cert.Reference8Ideal.Value.run m g)

/-- Over the extended reals the output projection and its reference return the same array. -/
theorem algebraic8 : Cert.algebraic_Kernel8Ideal_Reference8Ideal := by
  pair_intro
  · run_from Cert.Kernel8Ideal.Value.run_blocks m g
  · run_from Cert.Reference8Ideal.Value.run m' g'
    refine Eq.trans ?_ (Cert.Kernel8Ideal.Mm.final m c).symm
    funext j
    refine (Cert.Reference8Ideal.Mm.returned _ _ j).trans ?_
    unfold Cert.Kernel8Ideal.Mm.prod
    rfl

/-- The body of the call for the up projection is the same in both programs. -/
theorem bodies_up : Cert.Kernel2.defs₀ (F := Bits) = Cert.Kernel2Ideal.defs₀ := by
  unfold Cert.Kernel2.defs₀ Cert.Kernel2Ideal.defs₀
  refine congrArg Defs.onTc ?_
  funext p x
  match p, x with
  | ⟨0, _⟩, (t, s) => rfl

/-- The frame of the up projection, by the run of the program it is idealized to, which has the same text. -/
theorem frame_up : Cert.quiescent_Kernel2 := by
  intro m ρ _
  have h := (θ_run Cert.Kernel2Ideal.defs _ _).mono (fun _ h => And.intro (fun c => (h.1 c).2.2) h.2) (Cert.Kernel2Ideal.Up.run_main (F := Bits) m ρ)
  unfold Cert.Kernel2Ideal.defs at h
  rw [← bodies_up] at h
  exact h

/-- The frame of the idealized up projection. -/
theorem frame_up_ideal : Cert.quiescent_Kernel2Ideal := fun m ρ _ =>
  (θ_run Cert.Kernel2Ideal.defs _ _).mono (fun _ h => ⟨fun c => (h.1 c).2.2, h.2⟩) (Cert.Kernel2Ideal.Up.run_main m ρ)

/-- The frame of the reference of the up projection. -/
theorem frame_ref2 : Cert.quiescent_Reference2Ideal := fun m g _ =>
  (θ_run Cert.Reference2Ideal.defs _ _).mono (fun r h => ⟨fun c => (h c).2.2, Idealize.ShloMosaic.sem_eq_zero_of_no_sems (by decide) r.2⟩)
    (Cert.Reference2Ideal.Value.run m g)

/-- Over the extended reals the up projection and its reference return the same two arrays. -/
theorem algebraic2 : Cert.algebraic_Kernel2Ideal_Reference2Ideal := by
  pair_intro
  · run_from Cert.Kernel2Ideal.Mm.run_named m g
  · run_from Cert.Reference2Ideal.Value.run m' g'
    · refine Eq.trans ?_ (Cert.Kernel2Ideal.Mm.final m c).symm
      funext j
      refine (Cert.Reference2Ideal.Mm.gated _ j).trans ?_
      unfold Cert.Kernel2Ideal.Mm.prod Cert.Kernel2Ideal.Mm.swiglu
      refine congrArg₂ (fun a b : EReal => a * b) (congrArg (fun g : EReal => g * Cert.Rglru.sigm g) ?_) ?_
      · exact Cert.Reference2Ideal.Mm.dot_at _ _ _
      · exact Cert.Reference2Ideal.Mm.dot_at _ _ _
    · refine Eq.trans ?_ (Cert.Kernel2Ideal.Mm.final_down m c).symm
      funext j
      refine (Cert.Reference2Ideal.Mm.cast_at _ j).trans ?_
      unfold Cert.Kernel2Ideal.Mm.down
      rfl

/-- The body of the call for the input projection's gates is the same in both programs. -/
theorem bodies_merge : Cert.Kernel9.defs₀ (F := Bits) = Cert.Kernel9Ideal.defs₀ := by
  unfold Cert.Kernel9.defs₀ Cert.Kernel9Ideal.defs₀
  refine congrArg Defs.onTc ?_
  funext p x
  match p, x with
  | ⟨0, _⟩, (t, s) => rfl

/-- The frame of the input projection's gates, by the run of the program it is idealized to, which has the same text. -/
theorem frame_merge : Cert.quiescent_Kernel9 := by
  intro m ρ _
  have h := (θ_run Cert.Kernel9Ideal.defs _ _).mono (fun _ h => And.intro (fun c => (h.1 c).2.2) h.2) (Cert.Kernel9Ideal.Merge.run_main (F := Bits) m ρ)
  unfold Cert.Kernel9Ideal.defs at h
  rw [← bodies_merge] at h
  exact h

/-- The frame of the idealized input projection's gates. -/
theorem frame_merge_ideal : Cert.quiescent_Kernel9Ideal := fun m ρ _ =>
  (θ_run Cert.Kernel9Ideal.defs _ _).mono (fun _ h => ⟨fun c => (h.1 c).2.2, h.2⟩) (Cert.Kernel9Ideal.Merge.run_main m ρ)

/-- The frame of the reference of the input projection's gates. -/
theorem frame_ref9 : Cert.quiescent_Reference9Ideal := fun m g _ =>
  (θ_run Cert.Reference9Ideal.defs _ _).mono (fun r h => ⟨fun c => (h c).2.2, Idealize.ShloMosaic.sem_eq_zero_of_no_sems (by decide) r.2⟩)
    (Cert.Reference9Ideal.Value.run m g)

/-- Over the extended reals the input projection's gates and their reference return the same two arrays. -/
theorem algebraic9 : Cert.algebraic_Kernel9Ideal_Reference9Ideal := by
  pair_intro
  · run_from Cert.Kernel9Ideal.Mm.run_named m g
  · run_from Cert.Reference9Ideal.Value.run m' g'
    · refine Eq.trans ?_ (Cert.Kernel9Ideal.Mm.final m c).symm
      funext j
      refine (Cert.Reference9Ideal.Mm.returned _ _ j).trans ?_
      unfold Cert.Kernel9Ideal.Mm.prod
      rfl
    · refine Eq.trans ?_ (Cert.Kernel9Ideal.Mm.final_outw m c).symm
      funext j
      refine (Cert.Reference9Ideal.Mm.cast_at _ j).trans ?_
      unfold Cert.Kernel9Ideal.Mm.outw
      rfl

/-- The frame of the reference of the input projection's columns of the second mixer. -/
theorem frame_ref10 : Cert.quiescent_Reference10Ideal := fun m g _ =>
  (θ_run Cert.Reference10Ideal.defs _ _).mono (fun r h => ⟨fun c => (h c).2, Idealize.ShloMosaic.sem_eq_zero_of_no_sems (by decide) r.2⟩)
    (Cert.Reference10Ideal.Value.run m g)

/-- Over the extended reals the input projection's columns of the second mixer and their reference return the same array. -/
theorem algebraic10 : Cert.algebraic_Kernel10Ideal_Reference10Ideal := by
  pair_intro
  · run_from Cert.Kernel10Ideal.Value.run_blocks m g
  · run_from Cert.Reference10Ideal.Value.run m' g'
    refine Eq.trans ?_ (Cert.Kernel10Ideal.Mm.final m c).symm
    funext j
    refine (Cert.Reference10Ideal.Mm.returned _ _ j).trans ?_
    unfold Cert.Kernel10Ideal.Mm.prod
    rfl

/-- Every claim of the certificate. -/
theorem claim : Cert.Claim := ⟨Cert.Kernel.Gen.facts, Cert.KernelIdeal.Gen.facts, Cert.ReferenceIdeal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel2.Gen.facts, Cert.Kernel2Ideal.Gen.facts, Cert.Reference2Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts,
  fun m ρ _ => Cert.Kernel.Gen.frame m ρ, fun m ρ _ => Cert.KernelIdeal.Gen.frame m ρ, frame_ref,
  fun m ρ _ => Cert.Kernel3.Gen.frame m ρ, fun m ρ _ => Cert.Kernel3Ideal.Gen.frame m ρ, frame_ref3,
  fun m ρ _ => Cert.Kernel4.Gen.frame m ρ, fun m ρ _ => Cert.Kernel4Ideal.Gen.frame m ρ, frame_ref4,
  fun m ρ _ => Cert.Kernel5.Gen.frame m ρ, fun m ρ _ => Cert.Kernel5Ideal.Gen.frame m ρ, frame_ref5,
  fun m ρ _ => Cert.Kernel6.Gen.frame m ρ, fun m ρ _ => Cert.Kernel6Ideal.Gen.frame m ρ, frame_ref6,
  fun m ρ _ => Cert.Kernel7.Gen.frame m ρ, fun m ρ _ => Cert.Kernel7Ideal.Gen.frame m ρ, frame_ref7,
  fun m ρ _ => Cert.Kernel8.Gen.frame m ρ, fun m ρ _ => Cert.Kernel8Ideal.Gen.frame m ρ, frame_ref8,
  frame_up, frame_up_ideal, frame_ref2,
  frame_merge, frame_merge_ideal, frame_ref9,
  fun m ρ _ => Cert.Kernel10.Gen.frame m ρ, fun m ρ _ => Cert.Kernel10Ideal.Gen.frame m ρ, frame_ref10,
  trivial, algebraic, trivial, algebraic3, trivial, algebraic4, trivial, algebraic5, trivial, algebraic6, trivial, algebraic7, trivial, algebraic8, trivial, algebraic2, trivial, algebraic9, trivial, algebraic10⟩

end Cert.Proof

end
